-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "bn_eps" .f32 0x3727C5AC#32 ((57089906277444001221920219541324949608299 / 5708990770823839524233143877797980545530986496 : ℝ) : EReal)

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S4x4096x16 : Shape := ⟨3, ![4, 4096, 16]⟩
abbrev S16x16 : Shape := ⟨2, ![16, 16]⟩
abbrev S16 : Shape := ⟨1, ![16]⟩
abbrev S4096x4096 : Shape := ⟨2, ![4096, 4096]⟩
abbrev S3 : Shape := ⟨1, ![3]⟩
abbrev S_ : Shape := ⟨0, ![]⟩

class Facts : Prop where
  bcast_S_S3 : S_.BroadcastsInDim S3 (![] : Fin 0 → Fin S3.rank)
  bcast_S_S4x4096x16 : S_.BroadcastsInDim S4x4096x16 (![] : Fin 0 → Fin S4x4096x16.rank)
  bcast_S_S16x16 : S_.BroadcastsInDim S16x16 (![] : Fin 0 → Fin S16x16.rank)
  bcast_S_S16 : S_.BroadcastsInDim S16 (![] : Fin 0 → Fin S16.rank)

variable [Facts]

def fn_part1 {F : FTy → Type} [FloatOps F] (main_arg4 : FVec F S16 .f32) (main_arg5 : FVec F S16 .f32) (main_arg6 : FVec F S16 .f32) (main_arg7 : FVec F S16 .f32) (main_arg8 : FVec F S16 .f32) (main_v4 : IVec S3 1) (main_v6 : IVec S4096x4096 1) (main_v9 : IVec S4x4096x16 1) (main_v12 : IVec S16x16 1) (main_v15 : IVec S16x16 1) (main_v18 : IVec S16x16 1) : IVec S3 1 × IVec S4096x4096 1 × IVec S4x4096x16 1 × IVec S16x16 1 × IVec S16x16 1 × IVec S16x16 1 × IVec S16 1 × IVec S16 1 × IVec S16 1 × IVec S16 1 × IVec S16 1 :=
  let main_v19 : FVec F S16 .f32 := Host.absf main_arg4
  let main_cst_4 : FVec F S_ .f32 := constant S_ .f32 0x7F800000#32
  let main_v20 : FVec F S16 .f32 := broadcastInDim S16 ![] bcast_S_S16 main_cst_4
  let main_v21 : IVec S16 1 := cmpf .olt main_v19 main_v20
  let main_v22 : FVec F S16 .f32 := Host.absf main_arg5
  let main_cst_5 : FVec F S_ .f32 := constant S_ .f32 0x7F800000#32
  let main_v23 : FVec F S16 .f32 := broadcastInDim S16 ![] bcast_S_S16 main_cst_5
  let main_v24 : IVec S16 1 := cmpf .olt main_v22 main_v23
  let main_v25 : FVec F S16 .f32 := Host.absf main_arg6
  let main_cst_6 : FVec F S_ .f32 := constant S_ .f32 0x7F800000#32
  let main_v26 : FVec F S16 .f32 := broadcastInDim S16 ![] bcast_S_S16 main_cst_6
  let main_v27 : IVec S16 1 := cmpf .olt main_v25 main_v26
  let main_v28 : FVec F S16 .f32 := Host.absf main_arg7
  let main_cst_7 : FVec F S_ .f32 := constant S_ .f32 0x7F800000#32
  let main_v29 : FVec F S16 .f32 := broadcastInDim S16 ![] bcast_S_S16 main_cst_7
  let main_v30 : IVec S16 1 := cmpf .olt main_v28 main_v29
  let main_v31 : FVec F S16 .f32 := Host.absf main_arg8
  let main_cst_8 : FVec F S_ .f32 := constant S_ .f32 0x7F800000#32
  let main_v32 : FVec F S16 .f32 := broadcastInDim S16 ![] bcast_S_S16 main_cst_8
  let main_v33 : IVec S16 1 := cmpf .olt main_v31 main_v32
  (main_v4, main_v6, main_v9, main_v12, main_v15, main_v18, main_v21, main_v24, main_v27, main_v30, main_v33)

def fn {F : FTy → Type} [FloatOps F] (main_arg0 : FVec F S4x4096x16 .f32) (main_arg1 : FVec F S16x16 .f32) (main_arg2 : FVec F S16x16 .f32) (main_arg3 : FVec F S16x16 .f32) (main_arg4 : FVec F S16 .f32) (main_arg5 : FVec F S16 .f32) (main_arg6 : FVec F S16 .f32) (main_arg7 : FVec F S16 .f32) (main_arg8 : FVec F S16 .f32) (main_arg9 : FVec F S16 .f32) (main_arg10 : FVec F S4096x4096 .f32) (main_arg11 : FVec F S3 .f32) (main_arg12 : FVec F S4096x4096 .f32) : IVec S3 1 × IVec S4096x4096 1 × IVec S4x4096x16 1 × IVec S16x16 1 × IVec S16x16 1 × IVec S16x16 1 × IVec S16 1 × IVec S16 1 × IVec S16 1 × IVec S16 1 × IVec S16 1 :=
  let main_v0 : IVec S4096x4096 32 := iotaInDim S4096x4096 32 0
  let main_v1 : IVec S4096x4096 32 := iotaInDim S4096x4096 32 1
  let main_v2 : IVec S4096x4096 1 := cmpi .eq main_v0 main_v1
  let main_cst : FVec F S_ .f32 := constant S_ .f32 0x3F800000#32
  let main_v3 : FVec F S3 .f32 := broadcastInDim S3 ![] bcast_S_S3 main_cst
  let main_v4 : IVec S3 1 := cmpf .oeq main_arg11 main_v3
  let main_v5 : FVec F S4096x4096 .f32 := uitofp .f32 main_v2
  let main_v6 : IVec S4096x4096 1 := cmpf .oeq main_arg12 main_v5
  let main_v7 : FVec F S4x4096x16 .f32 := Host.absf main_arg0
  let main_cst_0 : FVec F S_ .f32 := constant S_ .f32 0x7F800000#32
  let main_v8 : FVec F S4x4096x16 .f32 := broadcastInDim S4x4096x16 ![] bcast_S_S4x4096x16 main_cst_0
  let main_v9 : IVec S4x4096x16 1 := cmpf .olt main_v7 main_v8
  let main_v10 : FVec F S16x16 .f32 := Host.absf main_arg1
  let main_cst_1 : FVec F S_ .f32 := constant S_ .f32 0x7F800000#32
  let main_v11 : FVec F S16x16 .f32 := broadcastInDim S16x16 ![] bcast_S_S16x16 main_cst_1
  let main_v12 : IVec S16x16 1 := cmpf .olt main_v10 main_v11
  let main_v13 : FVec F S16x16 .f32 := Host.absf main_arg2
  let main_cst_2 : FVec F S_ .f32 := constant S_ .f32 0x7F800000#32
  let main_v14 : FVec F S16x16 .f32 := broadcastInDim S16x16 ![] bcast_S_S16x16 main_cst_2
  let main_v15 : IVec S16x16 1 := cmpf .olt main_v13 main_v14
  let main_v16 : FVec F S16x16 .f32 := Host.absf main_arg3
  let main_cst_3 : FVec F S_ .f32 := constant S_ .f32 0x7F800000#32
  let main_v17 : FVec F S16x16 .f32 := broadcastInDim S16x16 ![] bcast_S_S16x16 main_cst_3
  let main_v18 : IVec S16x16 1 := cmpf .olt main_v16 main_v17
  fn_part1 (F := F) main_arg4 main_arg5 main_arg6 main_arg7 main_arg8 main_v4 main_v6 main_v9 main_v12 main_v15 main_v18
-- ==== Kernel.lean ====
abbrev S4x4096x16 : Shape := ⟨3, ![4, 4096, 16]⟩
abbrev S16x16 : Shape := ⟨2, ![16, 16]⟩
abbrev S16 : Shape := ⟨1, ![16]⟩
abbrev S4096x4096 : Shape := ⟨2, ![4096, 4096]⟩
abbrev S3 : Shape := ⟨1, ![3]⟩
abbrev S4x16x4096 : Shape := ⟨3, ![4, 16, 4096]⟩
abbrev S1x16 : Shape := ⟨2, ![1, 16]⟩
abbrev S4x16 : Shape := ⟨2, ![4, 16]⟩
abbrev S1x16x4096 : Shape := ⟨3, ![1, 16, 4096]⟩
abbrev S16x4096 : Shape := ⟨2, ![16, 4096]⟩
abbrev S16x16384 : Shape := ⟨2, ![16, 16384]⟩
abbrev S16x1 : Shape := ⟨2, ![16, 1]⟩

abbrev nBuf : Space → Nat
  | .hbm => 21
  | .vmem => 11
  | .smem => 0
  | _ => 0

abbrev bufTy : (tb : Table) → Fin (tcTables nBuf tb) → BufTy
  | .hbm, ⟨0, _⟩ => ⟨S4x4096x16, .f32⟩
  | .hbm, ⟨1, _⟩ => ⟨S16x16, .f32⟩
  | .hbm, ⟨2, _⟩ => ⟨S16x16, .f32⟩
  | .hbm, ⟨3, _⟩ => ⟨S16x16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S4096x4096, .f32⟩
  | .hbm, ⟨11, _⟩ => ⟨S3, .f32⟩
  | .hbm, ⟨12, _⟩ => ⟨S4096x4096, .f32⟩
  | .hbm, ⟨13, _⟩ => ⟨S4x16x4096, .f32⟩
  | .hbm, ⟨14, _⟩ => ⟨S1x16, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S4x16, .f32⟩
  | .local _ .vmem, ⟨0, _⟩ => ⟨S4x16x4096, .f32⟩
  | .local _ .vmem, ⟨1, _⟩ => ⟨S16x16, .f32⟩
  | .local _ .vmem, ⟨2, _⟩ => ⟨S16x16, .f32⟩
  | .local _ .vmem, ⟨3, _⟩ => ⟨S16x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S4x16, .f32⟩
  | _, _ => ⟨S4x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_v0 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "bn_eps" => some ((57089906277444001221920219541324949608299 / 5708990770823839524233143877797980545530986496 : ℝ) : EReal)
  | _ => none
-- ==== ReferenceIdeal.lean ====
abbrev S4x4096x16 : Shape := ⟨3, ![4, 4096, 16]⟩
abbrev S16x16 : Shape := ⟨2, ![16, 16]⟩
abbrev S16 : Shape := ⟨1, ![16]⟩
abbrev S4096x4096 : Shape := ⟨2, ![4096, 4096]⟩
abbrev S3 : Shape := ⟨1, ![3]⟩
abbrev S1 : Shape := ⟨1, ![1]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4x16x4096 : Shape := ⟨3, ![4, 16, 4096]⟩
abbrev S1x1x16 : Shape := ⟨3, ![1, 1, 16]⟩
abbrev S4x16 : Shape := ⟨2, ![4, 16]⟩

abbrev nBuf : Space → Nat
  | .hbm => 255
  | .vmem => 0
  | .smem => 0
  | _ => 0

abbrev hbmTy0_0 (i : Nat) : BufTy := match i % 128 with
  | 0 => ⟨S4x4096x16, .f32⟩
  | 1 => ⟨S16x16, .f32⟩
  | 2 => ⟨S16x16, .f32⟩
  | 3 => ⟨S16x16, .f32⟩
  | 4 => ⟨S16, .f32⟩
  | 5 => ⟨S16, .f32⟩
  | 6 => ⟨S16, .f32⟩
  | 7 => ⟨S16, .f32⟩
  | 8 => ⟨S16, .f32⟩
  | 9 => ⟨S16, .f32⟩
  | 10 => ⟨S4096x4096, .f32⟩
  | 11 => ⟨S3, .f32⟩
  | 12 => ⟨S4096x4096, .f32⟩
  | 13 => ⟨S1, .f32⟩
  | 14 => ⟨S_, .f32⟩
  | 15 => ⟨S4096x4096, .f32⟩
  | 16 => ⟨S4096x4096, .f32⟩
  | 17 => ⟨S1, .f32⟩
  | 18 => ⟨S_, .f32⟩
  | 19 => ⟨S_, .f32⟩
  | 20 => ⟨S_, .f32⟩
  | 21 => ⟨S4096x4096, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S_, .f32⟩
  | 28 => ⟨S4096, .f32⟩
  | 29 => ⟨S_, .f32⟩
  | 30 => ⟨S4096, .f32⟩
  | 31 => ⟨S4096, .f32⟩
  | 32 => ⟨S4096, .f32⟩
  | 33 => ⟨S_, .f32⟩
  | 34 => ⟨S4096, .f32⟩
  | 35 => ⟨S4096, .f32⟩
  | 36 => ⟨S4096x1, .f32⟩
  | 37 => ⟨S4096x4096, .f32⟩
  | 38 => ⟨S4096x4096, .f32⟩
  | 39 => ⟨S1x4096, .f32⟩
  | 40 => ⟨S4096x4096, .f32⟩
  | 41 => ⟨S4096x4096, .f32⟩
  | 42 => ⟨S4x4096x16, .f32⟩
  | 43 => ⟨S4x16x4096, .f32⟩
  | 44 => ⟨S4x4096x16, .f32⟩
  | 45 => ⟨S_, .f32⟩
  | 46 => ⟨S16, .f32⟩
  | 47 => ⟨S_, .f32⟩
  | 48 => ⟨S16, .f32⟩
  | 49 => ⟨S16, .f32⟩
  | 50 => ⟨S_, .i32⟩
  | 51 => ⟨S_, .f32⟩
  | 52 => ⟨S16, .f32⟩
  | 53 => ⟨S1x1x16, .f32⟩
  | 54 => ⟨S_, .f32⟩
  | 55 => ⟨S1x1x16, .f32⟩
  | 56 => ⟨S1x1x16, .f32⟩
  | 57 => ⟨S4x4096x16, .f32⟩
  | 58 => ⟨S4x4096x16, .f32⟩
  | 59 => ⟨S4x4096x16, .f32⟩
  | 60 => ⟨S_, .f32⟩
  | 61 => ⟨S_, .f32⟩
  | 62 => ⟨S_, .f32⟩
  | 63 => ⟨S_, .f32⟩
  | 64 => ⟨S16, .f32⟩
  | 65 => ⟨S16, .f32⟩
  | 66 => ⟨S16, .f32⟩
  | 67 => ⟨S_, .f32⟩
  | 68 => ⟨S_, .i1⟩
  | 69 => ⟨S_, .f32⟩
  | 70 => ⟨S_, .f32⟩
  | 71 => ⟨S16, .f32⟩
  | 72 => ⟨S16, .f32⟩
  | 73 => ⟨S1x1x16, .f32⟩
  | 74 => ⟨S4x4096x16, .f32⟩
  | 75 => ⟨S4x4096x16, .f32⟩
  | 76 => ⟨S1x1x16, .f32⟩
  | 77 => ⟨S4x4096x16, .f32⟩
  | 78 => ⟨S4x4096x16, .f32⟩
  | 79 => ⟨S_, .f32⟩
  | 80 => ⟨S16, .f32⟩
  | 81 => ⟨S16, .f32⟩
  | 82 => ⟨S16, .f32⟩
  | 83 => ⟨S1x1x16, .f32⟩
  | 84 => ⟨S4x4096x16, .f32⟩
  | 85 => ⟨S4x4096x16, .f32⟩
  | 86 => ⟨S1x1x16, .f32⟩
  | 87 => ⟨S4x4096x16, .f32⟩
  | 88 => ⟨S4x4096x16, .f32⟩
  | 89 => ⟨S_, .f32⟩
  | 90 => ⟨S4x4096x16, .f32⟩
  | 91 => ⟨S4x4096x16, .f32⟩
  | 92 => ⟨S1, .f32⟩
  | 93 => ⟨S_, .f32⟩
  | 94 => ⟨S4096x4096, .f32⟩
  | 95 => ⟨S4096x4096, .f32⟩
  | 96 => ⟨S1, .f32⟩
  | 97 => ⟨S_, .f32⟩
  | 98 => ⟨S_, .f32⟩
  | 99 => ⟨S_, .f32⟩
  | 100 => ⟨S4096x4096, .f32⟩
  | 101 => ⟨S4096x4096, .f32⟩
  | 102 => ⟨S4096x4096, .f32⟩
  | 103 => ⟨S_, .f32⟩
  | 104 => ⟨S4096x4096, .f32⟩
  | 105 => ⟨S4096x4096, .f32⟩
  | 106 => ⟨S_, .f32⟩
  | 107 => ⟨S4096, .f32⟩
  | 108 => ⟨S_, .f32⟩
  | 109 => ⟨S4096, .f32⟩
  | 110 => ⟨S4096, .f32⟩
  | 111 => ⟨S4096, .f32⟩
  | 112 => ⟨S_, .f32⟩
  | 113 => ⟨S4096, .f32⟩
  | 114 => ⟨S4096, .f32⟩
  | 115 => ⟨S4096x1, .f32⟩
  | 116 => ⟨S4096x4096, .f32⟩
  | 117 => ⟨S4096x4096, .f32⟩
  | 118 => ⟨S1x4096, .f32⟩
  | 119 => ⟨S4096x4096, .f32⟩
  | 120 => ⟨S4096x4096, .f32⟩
  | 121 => ⟨S4x4096x16, .f32⟩
  | 122 => ⟨S4x16x4096, .f32⟩
  | 123 => ⟨S4x4096x16, .f32⟩
  | 124 => ⟨S_, .f32⟩
  | 125 => ⟨S16, .f32⟩
  | 126 => ⟨S_, .f32⟩
  | 127 => ⟨S16, .f32⟩
  | _ => ⟨S4x4096x16, .f32⟩

abbrev hbmTy0_1 (i : Nat) : BufTy := match i % 128 with
  | 0 => ⟨S16, .f32⟩
  | 1 => ⟨S_, .i32⟩
  | 2 => ⟨S_, .f32⟩
  | 3 => ⟨S16, .f32⟩
  | 4 => ⟨S1x1x16, .f32⟩
  | 5 => ⟨S_, .f32⟩
  | 6 => ⟨S1x1x16, .f32⟩
  | 7 => ⟨S1x1x16, .f32⟩
  | 8 => ⟨S4x4096x16, .f32⟩
  | 9 => ⟨S4x4096x16, .f32⟩
  | 10 => ⟨S4x4096x16, .f32⟩
  | 11 => ⟨S_, .f32⟩
  | 12 => ⟨S_, .f32⟩
  | 13 => ⟨S_, .f32⟩
  | 14 => ⟨S_, .f32⟩
  | 15 => ⟨S16, .f32⟩
  | 16 => ⟨S16, .f32⟩
  | 17 => ⟨S16, .f32⟩
  | 18 => ⟨S_, .f32⟩
  | 19 => ⟨S_, .i1⟩
  | 20 => ⟨S_, .f32⟩
  | 21 => ⟨S_, .f32⟩
  | 22 => ⟨S16, .f32⟩
  | 23 => ⟨S16, .f32⟩
  | 24 => ⟨S1x1x16, .f32⟩
  | 25 => ⟨S4x4096x16, .f32⟩
  | 26 => ⟨S4x4096x16, .f32⟩
  | 27 => ⟨S1x1x16, .f32⟩
  | 28 => ⟨S4x4096x16, .f32⟩
  | 29 => ⟨S4x4096x16, .f32⟩
  | 30 => ⟨S_, .f32⟩
  | 31 => ⟨S16, .f32⟩
  | 32 => ⟨S16, .f32⟩
  | 33 => ⟨S16, .f32⟩
  | 34 => ⟨S1x1x16, .f32⟩
  | 35 => ⟨S4x4096x16, .f32⟩
  | 36 => ⟨S4x4096x16, .f32⟩
  | 37 => ⟨S1x1x16, .f32⟩
  | 38 => ⟨S4x4096x16, .f32⟩
  | 39 => ⟨S4x4096x16, .f32⟩
  | 40 => ⟨S_, .f32⟩
  | 41 => ⟨S4x4096x16, .f32⟩
  | 42 => ⟨S4x4096x16, .f32⟩
  | 43 => ⟨S1, .f32⟩
  | 44 => ⟨S_, .f32⟩
  | 45 => ⟨S4096x4096, .f32⟩
  | 46 => ⟨S4096x4096, .f32⟩
  | 47 => ⟨S1, .f32⟩
  | 48 => ⟨S_, .f32⟩
  | 49 => ⟨S_, .f32⟩
  | 50 => ⟨S_, .f32⟩
  | 51 => ⟨S4096x4096, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S_, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .f32⟩
  | 64 => ⟨S4096, .f32⟩
  | 65 => ⟨S4096, .f32⟩
  | 66 => ⟨S4096x1, .f32⟩
  | 67 => ⟨S4096x4096, .f32⟩
  | 68 => ⟨S4096x4096, .f32⟩
  | 69 => ⟨S1x4096, .f32⟩
  | 70 => ⟨S4096x4096, .f32⟩
  | 71 => ⟨S4096x4096, .f32⟩
  | 72 => ⟨S4x4096x16, .f32⟩
  | 73 => ⟨S4x16x4096, .f32⟩
  | 74 => ⟨S4x4096x16, .f32⟩
  | 75 => ⟨S_, .f32⟩
  | 76 => ⟨S16, .f32⟩
  | 77 => ⟨S_, .f32⟩
  | 78 => ⟨S16, .f32⟩
  | 79 => ⟨S16, .f32⟩
  | 80 => ⟨S_, .i32⟩
  | 81 => ⟨S_, .f32⟩
  | 82 => ⟨S16, .f32⟩
  | 83 => ⟨S1x1x16, .f32⟩
  | 84 => ⟨S_, .f32⟩
  | 85 => ⟨S1x1x16, .f32⟩
  | 86 => ⟨S1x1x16, .f32⟩
  | 87 => ⟨S4x4096x16, .f32⟩
  | 88 => ⟨S4x4096x16, .f32⟩
  | 89 => ⟨S4x4096x16, .f32⟩
  | 90 => ⟨S_, .f32⟩
  | 91 => ⟨S_, .f32⟩
  | 92 => ⟨S_, .f32⟩
  | 93 => ⟨S_, .f32⟩
  | 94 => ⟨S16, .f32⟩
  | 95 => ⟨S16, .f32⟩
  | 96 => ⟨S16, .f32⟩
  | 97 => ⟨S_, .f32⟩
  | 98 => ⟨S_, .i1⟩
  | 99 => ⟨S_, .f32⟩
  | 100 => ⟨S_, .f32⟩
  | 101 => ⟨S16, .f32⟩
  | 102 => ⟨S16, .f32⟩
  | 103 => ⟨S1x1x16, .f32⟩
  | 104 => ⟨S4x4096x16, .f32⟩
  | 105 => ⟨S4x4096x16, .f32⟩
  | 106 => ⟨S1x1x16, .f32⟩
  | 107 => ⟨S4x4096x16, .f32⟩
  | 108 => ⟨S4x4096x16, .f32⟩
  | 109 => ⟨S_, .f32⟩
  | 110 => ⟨S16, .f32⟩
  | 111 => ⟨S16, .f32⟩
  | 112 => ⟨S16, .f32⟩
  | 113 => ⟨S1x1x16, .f32⟩
  | 114 => ⟨S4x4096x16, .f32⟩
  | 115 => ⟨S4x4096x16, .f32⟩
  | 116 => ⟨S1x1x16, .f32⟩
  | 117 => ⟨S4x4096x16, .f32⟩
  | 118 => ⟨S4x4096x16, .f32⟩
  | 119 => ⟨S_, .f32⟩
  | 120 => ⟨S4x4096x16, .f32⟩
  | 121 => ⟨S4x4096x16, .f32⟩
  | 122 => ⟨S_, .f32⟩
  | 123 => ⟨S4x16, .f32⟩
  | 124 => ⟨S_, .f32⟩
  | 125 => ⟨S4x16, .f32⟩
  | 126 => ⟨S4x16, .f32⟩
  | _ => ⟨S4x4096x16, .f32⟩

abbrev hbmTy (i : Nat) : BufTy := match i / 128 with
  | 0 => hbmTy0_0 i
  | 1 => hbmTy0_1 i
  | _ => ⟨S4x4096x16, .f32⟩

abbrev bufTy : (tb : Table) → Fin (tcTables nBuf tb) → BufTy
  | .hbm, ⟨i, _⟩ => hbmTy i
  | _, _ => ⟨S4x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_5 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_call2_cst : Ref sig .tc := ⟨.hbm, 89, rfl⟩
abbrev main_call2_v0 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_6 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call3_cst : Ref sig .tc := ⟨.hbm, 103, rfl⟩
abbrev main_call3_v0 : Ref sig .tc := ⟨.hbm, 104, rfl⟩
abbrev main_v56 : Ref sig .tc := ⟨.hbm, 105, rfl⟩
abbrev main_cst_7 : Ref sig .tc := ⟨.hbm, 106, rfl⟩
abbrev main_v57 : Ref sig .tc := ⟨.hbm, 107, rfl⟩
abbrev main_cst_8 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_9 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_10 : Ref sig .tc := ⟨.hbm, 124, rfl⟩
abbrev main_v72 : Ref sig .tc := ⟨.hbm, 125, rfl⟩
abbrev main_cst_11 : Ref sig .tc := ⟨.hbm, 126, rfl⟩
abbrev main_v73 : Ref sig .tc := ⟨.hbm, 127, rfl⟩
abbrev main_v74 : Ref sig .tc := ⟨.hbm, 128, rfl⟩
abbrev main_c_12 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_cst_3 : Ref sig .tc := ⟨.hbm, 146, rfl⟩
abbrev main_call4_v12 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_cst_13 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_call5_cst : Ref sig .tc := ⟨.hbm, 168, rfl⟩
abbrev main_call5_v0 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_cst_14 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_call6_cst : Ref sig .tc := ⟨.hbm, 182, rfl⟩
abbrev main_call6_v0 : Ref sig .tc := ⟨.hbm, 183, rfl⟩
abbrev main_v102 : Ref sig .tc := ⟨.hbm, 184, rfl⟩
abbrev main_cst_15 : Ref sig .tc := ⟨.hbm, 185, rfl⟩
abbrev main_v103 : Ref sig .tc := ⟨.hbm, 186, rfl⟩
abbrev main_cst_16 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_17 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_cst_18 : Ref sig .tc := ⟨.hbm, 203, rfl⟩
abbrev main_v118 : Ref sig .tc := ⟨.hbm, 204, rfl⟩
abbrev main_cst_19 : Ref sig .tc := ⟨.hbm, 205, rfl⟩
abbrev main_v119 : Ref sig .tc := ⟨.hbm, 206, rfl⟩
abbrev main_v120 : Ref sig .tc := ⟨.hbm, 207, rfl⟩
abbrev main_c_20 : Ref sig .tc := ⟨.hbm, 208, rfl⟩
abbrev main_call7_cst : Ref sig .tc := ⟨.hbm, 209, rfl⟩
abbrev main_call7_v0 : Ref sig .tc := ⟨.hbm, 210, rfl⟩
abbrev main_call7_v1 : Ref sig .tc := ⟨.hbm, 211, rfl⟩
abbrev main_call7_cst_0 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_call7_v5 : Ref sig .tc := ⟨.hbm, 216, rfl⟩
abbrev main_call7_v6 : Ref sig .tc := ⟨.hbm, 217, rfl⟩
abbrev main_call7_v7 : Ref sig .tc := ⟨.hbm, 218, rfl⟩
abbrev main_call7_cst_1 : Ref sig .tc := ⟨.hbm, 219, rfl⟩
abbrev main_call7_v8 : Ref sig .tc := ⟨.hbm, 220, rfl⟩
abbrev main_call7_cst_2 : Ref sig .tc := ⟨.hbm, 221, rfl⟩
abbrev main_call7_v9 : Ref sig .tc := ⟨.hbm, 222, rfl⟩
abbrev main_call7_v10 : Ref sig .tc := ⟨.hbm, 223, rfl⟩
abbrev main_call7_v11 : Ref sig .tc := ⟨.hbm, 224, rfl⟩
abbrev main_call7_cst_3 : Ref sig .tc := ⟨.hbm, 225, rfl⟩
abbrev main_call7_v12 : Ref sig .tc := ⟨.hbm, 226, rfl⟩
abbrev main_call7_cst_4 : Ref sig .tc := ⟨.hbm, 227, rfl⟩
abbrev main_call7_call0_v0 : Ref sig .tc := ⟨.hbm, 228, rfl⟩
abbrev main_call7_call0_v1 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_cst_21 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_call8_cst : Ref sig .tc := ⟨.hbm, 247, rfl⟩
abbrev main_call8_v0 : Ref sig .tc := ⟨.hbm, 248, rfl⟩
abbrev main_v137 : Ref sig .tc := ⟨.hbm, 249, rfl⟩
abbrev main_cst_22 : Ref sig .tc := ⟨.hbm, 250, rfl⟩
abbrev main_v138 : Ref sig .tc := ⟨.hbm, 251, rfl⟩
abbrev main_cst_23 : Ref sig .tc := ⟨.hbm, 252, rfl⟩
abbrev main_v139 : Ref sig .tc := ⟨.hbm, 253, rfl⟩
abbrev main_v140 : Ref sig .tc := ⟨.hbm, 254, rfl⟩

abbrev nD : Nat := 1
abbrev τ : Topo := Topo.v7x

variable {F : FTy → Type} [FloatOps F]
-- ==== Proof.Layer.lean ====
/-
  One layer of the network as a formula over the reals, and the two ways of computing it.

  A layer multiplies the features by a weight matrix, normalises every channel over all batches and nodes, scales and
  shifts it, and keeps the positive part. The kernel and the reference group these steps differently; both forms are
  shown equal to `act` below, whatever the shift is (it may even be infinite).
-/
module

public import Idealize.ShloMosaic.PureOps.Ideal

@[expose] public section

noncomputable section

namespace Cert.Gnn

open Idealize.ShloMosaic

/-- The features of a layer: batch, node, channel. -/
abbrev Feat := Fin 4 → Fin 4096 → Fin 16 → ℝ

/-- The features times a weight matrix, node by node. -/
def lin (W : Fin 16 → Fin 16 → ℝ) (h : Feat) : Feat := fun b n c => ∑ k, h b n k * W k c

/-- The mean of a channel over all batches and nodes. -/
def mean (g : Feat) (c : Fin 16) : ℝ := (∑ b, ∑ n, g b n c) / 16384

/-- The variance of a channel over all batches and nodes, as the mean of the squared distances from the mean. -/
def var (g : Feat) (c : Fin 16) : ℝ := (∑ b, ∑ n, (g b n c - mean g c) * (g b n c - mean g c)) / 16384

/-- The reference's normalisation constant, 1e-5 as a 32-bit float. -/
def epsBn : ℝ := 10995116 / 2 ^ 40

/-- The constant the reference adds to every node's degree, 1e-10 as a 32-bit float. -/
def epsDeg : ℝ := 14411519 / 2 ^ 57

/-- The degree of every node of the identity graph, as the reference sees it. -/
def deg : ℝ := 1 + epsDeg

/-- The kernel's normalisation constant: the reference's, moved past the division by the degree. -/
def epsK : ℝ := epsBn * deg ^ 2

/-- The normalised and scaled features. -/
def normed (γ : Fin 16 → ℝ) (g : Feat) : Feat :=
  fun b n c => γ c * (g b n c - mean g c) * (√(var g c + epsK))⁻¹

/-- What a layer leaves: normalised, scaled, shifted by `β`, the positive part. -/
def act (γ : Fin 16 → ℝ) (β : Fin 16 → EReal) (g : Feat) (b : Fin 4) (n : Fin 4096) (c : Fin 16) : EReal :=
  max ((normed γ g b n c : EReal) + β c) 0

/-- The same where the shift is finite, as a real number. -/
def actR (γ β : Fin 16 → ℝ) (g : Feat) : Feat := fun b n c => max (normed γ g b n c + β c) 0

/-- With a finite shift the layer leaves finite features. -/
theorem act_coe (γ β : Fin 16 → ℝ) (g : Feat) (b : Fin 4) (n : Fin 4096) (c : Fin 16) :
    act γ (fun c => (β c : EReal)) g b n c = (actR γ β g b n c : EReal) := by
  unfold act actR
  rw [← EReal.coe_add, ← EReal.coe_zero]
  exact (EReal.coe_strictMono.monotone.map_max).symm

/-- A finite sum of real numbers, taken among the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The normalisation constant is positive. -/
theorem epsBn_pos : 0 < epsBn := by unfold epsBn; positivity
/-- The degree is positive. -/
theorem deg_pos : 0 < deg := by unfold deg epsDeg; positivity
/-- The kernel's normalisation constant is positive. -/
theorem epsK_pos : 0 < epsK := mul_pos epsBn_pos (pow_pos deg_pos 2)

/-- A variance is not negative. -/
theorem var_nonneg (g : Feat) (c : Fin 16) : 0 ≤ var g c :=
  div_nonneg (Finset.sum_nonneg fun _ _ => Finset.sum_nonneg fun _ _ => mul_self_nonneg _) (by norm_num)

/-- The variance plus the kernel's constant is positive. -/
theorem var_add_pos (g : Feat) (c : Fin 16) : 0 < var g c + epsK := add_pos_of_nonneg_of_pos (var_nonneg g c) epsK_pos

/-- The kernel's variance, the mean of the squares less the square of the mean, is the variance. -/
theorem var_eq (g : Feat) (c : Fin 16) :
    (∑ b, ∑ n, g b n c * g b n c) / 16384 - mean g c * mean g c = var g c := by
  have h1 : ∀ b n, (g b n c - mean g c) * (g b n c - mean g c)
      = g b n c * g b n c - 2 * mean g c * g b n c + mean g c * mean g c := fun b n => by ring
  have h2 : (∑ b, ∑ n, g b n c) = 16384 * mean g c := by unfold mean; ring
  unfold var
  simp only [h1, Finset.sum_add_distrib, Finset.sum_sub_distrib, ← Finset.mul_sum, h2, Finset.sum_const,
    Finset.card_univ, Fintype.card_fin, nsmul_eq_mul]
  push_cast
  ring

/-- The mean of features divided by a constant. -/
theorem mean_smul (s : ℝ) (g : Feat) (c : Fin 16) : mean (fun b n c => g b n c * s) c = mean g c * s := by
  unfold mean
  simp only [← Finset.sum_mul]
  ring

/-- The variance of features multiplied by a constant. -/
theorem var_smul (s : ℝ) (g : Feat) (c : Fin 16) : var (fun b n c => g b n c * s) c = var g c * s ^ 2 := by
  unfold var
  rw [mean_smul]
  have h : ∀ b n, (g b n c * s - mean g c * s) * (g b n c * s - mean g c * s)
      = (g b n c - mean g c) * (g b n c - mean g c) * s ^ 2 := fun b n => by ring
  simp only [h, ← Finset.sum_mul]
  ring

/-- The kernel's form of a layer: the features times a scale, plus a shift less the mean times the scale. -/
theorem act_of_scale (γ : Fin 16 → ℝ) (β : Fin 16 → EReal) (g : Feat) (b : Fin 4) (n : Fin 4096) (c : Fin 16) :
    max ((g b n c : EReal) * ((γ c * (√(var g c + epsK))⁻¹ : ℝ) : EReal)
      + (β c - ((mean g c * (γ c * (√(var g c + epsK))⁻¹) : ℝ) : EReal))) 0 = act γ β g b n c := by
  unfold act normed
  rw [← EReal.coe_mul, sub_eq_add_neg, add_comm (β c), ← add_assoc, ← EReal.coe_neg, ← EReal.coe_add]
  congr 3
  ring

/-- The reference's form of a layer, whose features the division by the degree has scaled: the distance from the mean
    times `γ`, divided by the root of the variance plus the reference's constant. The degree cancels. -/
theorem normed_of_div (γ : Fin 16 → ℝ) (g : Feat) (b : Fin 4) (n : Fin 4096) (c : Fin 16) :
    γ c * (g b n c * deg⁻¹ - mean (fun b n c => g b n c * deg⁻¹) c)
      * (√(var (fun b n c => g b n c * deg⁻¹) c + epsBn))⁻¹ = normed γ g b n c := by
  have hd := deg_pos
  have he : var g c * deg⁻¹ ^ 2 + epsBn = (var g c + epsK) * deg⁻¹ ^ 2 := by
    unfold epsK; field_simp
  rw [mean_smul, var_smul, he, Real.sqrt_mul (var_add_pos g c).le, Real.sqrt_sq (inv_nonneg.mpr hd.le), mul_inv, inv_inv]
  unfold normed
  field_simp

/-- The mean over the nodes of what the last layer leaves: the network's result. -/
def pooled (γ : Fin 16 → ℝ) (β : Fin 16 → EReal) (g : Feat) (b : Fin 4) (c : Fin 16) : EReal :=
  (∑ n, act γ β g b n c) * ((1 / 4096 : ℝ) : EReal)

/-- The network's result as a function of finite inputs (the last shift may be infinite). -/
def network (x : Feat) (W1 W2 W3 : Fin 16 → Fin 16 → ℝ) (γ1 β1 γ2 β2 γ3 : Fin 16 → ℝ) (β3 : Fin 16 → EReal) :
    Fin 4 → Fin 16 → EReal :=
  pooled γ3 β3 (lin W3 (actR γ2 β2 (lin W2 (actR γ1 β1 (lin W1 x)))))

/-! ## The columns of the kernel's arrays -/

/-- The batch of a column of the kernel's arrays, in which the four batches stand side by side. -/
def bOf (j : Fin 16384) : Fin 4 := ⟨j / 4096, by omega⟩

/-- The node of a column of the kernel's arrays. -/
def nOf (j : Fin 16384) : Fin 4096 := ⟨j % 4096, by omega⟩

/-- The column of a batch's node. -/
def colOf (b : Fin 4) (n : Fin 4096) : Fin 16384 := ⟨b * 4096 + n, by omega⟩

/-- The batch of the column of a batch and a node is that batch. -/
theorem bOf_colOf (b : Fin 4) (n : Fin 4096) : bOf (colOf b n) = b := Fin.ext (by simp only [bOf, colOf]; omega)
/-- The node of the column of a batch and a node is that node. -/
theorem nOf_colOf (b : Fin 4) (n : Fin 4096) : nOf (colOf b n) = n := Fin.ext (by simp only [nOf, colOf]; omega)

/-- A sum over the columns is a sum over batches and nodes. -/
theorem sum_columns {M : Type*} [AddCommMonoid M] (f : Fin 4 → Fin 4096 → M) :
    ∑ j : Fin 16384, f (bOf j) (nOf j) = ∑ b, ∑ n, f b n := by
  rw [← Fintype.sum_prod_type']
  exact Fintype.sum_equiv ⟨fun j => (bOf j, nOf j), fun p => colOf p.1 p.2,
    fun j => Fin.ext (by simp only [bOf, nOf, colOf]; omega),
    fun p => Prod.ext (bOf_colOf _ _) (nOf_colOf _ _)⟩ _ _ fun _ => rfl

end Cert.Gnn

end
-- ==== Proof.Consts.lean ====
/-
  The constants the two programs spell, as the real numbers their bit patterns denote, and the value of the constant the
  kernel names.
-/
module

public import proofs.«01_k».proof.KernelIdeal
public import proofs.«01_k».proof.Proof.Layer
public import Idealize.ShloMosaic.PureOps.Ideal
public import Idealize.ShloMosaic.PureOps.IdealRules

@[expose] public section

noncomputable section

namespace Cert.Gnn

open Idealize.ShloMosaic

/-- The pattern of `2⁻¹⁴`, by which the kernel multiplies a sum over all batches and nodes. -/
theorem word_inv16384 : Ideal.ofBits .f32 0x38800000#32 = ((1 / 16384 : ℝ) : EReal) := by
  simp [Ideal.ofBits, Ideal.ieee, -EReal.coe_mul]; norm_num

/-- The pattern of `2⁻¹²`, by which the kernel multiplies a sum over the nodes. -/
theorem word_inv4096 : Ideal.ofBits .f32 0x39800000#32 = ((1 / 4096 : ℝ) : EReal) := by
  simp [Ideal.ofBits, Ideal.ieee, -EReal.coe_mul]; norm_num

/-- The pattern of `16384`, the number of batches times the number of nodes. -/
theorem word_16384 : Ideal.ofBits .f32 0x46800000#32 = ((16384 : ℝ) : EReal) := by
  simp [Ideal.ofBits, Ideal.ieee, -EReal.coe_mul]; norm_num

/-- The pattern of `4096`, the number of nodes. -/
theorem word_4096 : Ideal.ofBits .f32 0x45800000#32 = ((4096 : ℝ) : EReal) := by
  simp [Ideal.ofBits, Ideal.ieee, -EReal.coe_mul]; norm_num

/-- The pattern of the reference's normalisation constant. -/
theorem word_epsBn : Ideal.ofBits .f32 0x3727C5AC#32 = ((epsBn : ℝ) : EReal) := by
  unfold epsBn
  simp [Ideal.ofBits, Ideal.ieee, -EReal.coe_mul]; norm_num

/-- The pattern of the constant added to every degree. -/
theorem word_epsDeg : Ideal.ofBits .f32 0x2EDBE6FF#32 = ((epsDeg : ℝ) : EReal) := by
  unfold epsDeg
  simp [Ideal.ofBits, Ideal.ieee, -EReal.coe_mul]; norm_num

/-- The pattern of one. -/
theorem word_one : Ideal.ofBits .f32 0x3F800000#32 = ((1 : ℝ) : EReal) := by
  simp [Ideal.ofBits, Ideal.ieee, -EReal.coe_mul]; norm_num

/-- The pattern of zero. -/
theorem word_zero : Ideal.ofBits .f32 0x00000000#32 = ((0 : ℝ) : EReal) := by
  simp [Ideal.ofBits, Ideal.ieee]

/-- The pattern of the infinity that bounds the finite inputs. -/
theorem word_inf : Ideal.ofBits .f32 0x7F800000#32 = ⊤ := by
  simp [Ideal.ofBits, Ideal.ieee]

/-- The constant the kernel names is the reference's normalisation constant times the square of the degree. -/
theorem named_eps : Named.named (F := Ideal) Cert.KernelIdeal.κ "bn_eps" (φ := .f32) 0x3727C5AC#32 = ((epsK : ℝ) : EReal) := by
  have h : epsK = (57089906277444001221920219541324949608299 / 5708990770823839524233143877797980545530986496 : ℝ) := by
    unfold epsK deg epsBn epsDeg; norm_num
  rw [h]
  exact IdealRules.named_const.ideal_named_scalar _ _ _ _ rfl

end Cert.Gnn

end
-- ==== Proof.KernelBlock.lean ====
/-
  What the kernel's vectors hold: every payload of the body read at an index, layer by layer.

  The kernel keeps the features channel by channel, the four batches side by side along the columns. `IsFeat h g` says
  that such an array holds the real features `g`.
-/
module

public import proofs.«01_k».proof.Proof.Gen.KernelIdeal.Skeleton
public import proofs.«01_k».proof.Proof.Consts
public import Idealize.ShloMosaic.Lib.Pointwise

@[expose] public section

set_option maxRecDepth 16384

noncomputable section

namespace Cert.Gnn.Kernel

open Idealize.ShloMosaic Cert.KernelIdeal Cert.KernelIdeal.Gen Cert.Gnn

/-- The kernel's array `h` holds the features `g`. -/
def IsFeat (h : FVec Ideal S16x16384 .f32) (g : Feat) : Prop :=
  ∀ (c : Fin 16) (j : Fin 16384), h (ix2 c j) = ((g (bOf j) (nOf j) c : ℝ) : EReal)

/-- The kernel's column vector `v` holds the numbers `r`, one for each channel. -/
def IsCol (v : FVec Ideal S16x1 .f32) (r : Fin 16 → ℝ) : Prop := ∀ c : Fin 16, v (ix2 c 0) = ((r c : ℝ) : EReal)

/-- The square array `v` holds the matrix `W`. -/
def IsMat (v : Vec Ideal S16x16 .f32) (W : Fin 16 → Fin 16 → ℝ) : Prop :=
  ∀ k c : Fin 16, v (ix2 k c) = ((W k c : ℝ) : EReal)

/-! ## The identity matrix and its two products -/

/-- The kernel's identity matrix. -/
theorem eye_at (i k : Fin 16) : k0_pay1 (F := Ideal) (ix2 i k) = if i = k then 1 else 0 := by
  unfold k0_pay1
  pointwise
  have h : IntOp.cmpi CmpIPredicate.eq (BitVec.ofNat 32 (i : ℕ)) (BitVec.ofNat 32 (k : ℕ)) = if i = k then 1#1 else 0#1 := by
    revert i k; decide
  rw [h]
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

/-- A row of the identity matrix picks out one term of a sum. -/
theorem sum_eye_row (i : Fin 16) (f : Fin 16 → EReal) : ∑ x, k0_pay1 (F := Ideal) (ix2 i x) * f x = f i := by
  simp only [eye_at, ite_mul, one_mul, zero_mul, Finset.sum_ite_eq, Finset.mem_univ, if_true]

/-- A column of the identity matrix picks out one term of a sum. -/
theorem sum_eye_col (k : Fin 16) (f : Fin 16 → EReal) : ∑ x, k0_pay1 (F := Ideal) (ix2 x k) * f x = f k := by
  simp only [eye_at, ite_mul, one_mul, zero_mul, Finset.sum_ite_eq', Finset.mem_univ, if_true]

/-! ## Facts that every layer uses -/

/-- A weight matrix times real features is the layer's linear part. -/
theorem sum_lin {v : Vec Ideal S16x16 .f32} {W : Fin 16 → Fin 16 → ℝ} (hv : IsMat v W) (a : Feat) (b : Fin 4)
    (n : Fin 4096) (c : Fin 16) : ∑ k, v (ix2 k c) * ((a b n k : ℝ) : EReal) = ((lin W a b n c : ℝ) : EReal) := by
  unfold lin
  rw [coe_sum]
  exact Finset.sum_congr rfl fun k _ => by rw [hv k c, mul_comm, EReal.coe_mul]

/-- A channel's sum over the columns, times `2⁻¹⁴`, is its mean. -/
theorem sum_mean {h : FVec Ideal S16x16384 .f32} {g : Feat} (hh : IsFeat h g) (c : Fin 16) :
    (∑ j, h (ix2 c j)) * Ideal.ofBits .f32 0x38800000#32 = ((mean g c : ℝ) : EReal) := by
  rw [word_inv16384, Finset.sum_congr rfl fun j _ => hh c j, ← coe_sum, sum_columns (fun b n => g b n c), ← EReal.coe_mul]
  unfold mean
  exact congrArg _ (by ring)

/-- A channel's sum of squares, times `2⁻¹⁴`, less the square of the mean, is its variance. -/
theorem sum_var {h : FVec Ideal S16x16384 .f32} {g : Feat} (hh : IsFeat h g) (c : Fin 16) :
    (∑ j, h (ix2 c j) * h (ix2 c j)) * Ideal.ofBits .f32 0x38800000#32
      - ((mean g c : ℝ) : EReal) * ((mean g c : ℝ) : EReal) = ((var g c : ℝ) : EReal) := by
  have e : ∀ j, h (ix2 c j) * h (ix2 c j) = ((g (bOf j) (nOf j) c * g (bOf j) (nOf j) c : ℝ) : EReal) := fun j => by
    rw [hh c j, EReal.coe_mul]
  rw [word_inv16384, Finset.sum_congr rfl fun j _ => e j, ← coe_sum,
    sum_columns (fun b n => g b n c * g b n c), ← EReal.coe_mul, ← EReal.coe_mul, ← EReal.coe_sub, ← var_eq]
  exact congrArg _ (by ring)

/-- The reciprocal root of the variance plus the kernel's constant. -/
theorem rsqrt_var (g : Feat) (c : Fin 16) :
    Ideal.rsqrt (((var g c : ℝ) : EReal) + ((epsK : ℝ) : EReal)) = (((√(var g c + epsK))⁻¹ : ℝ) : EReal) := by
  have h := var_add_pos g c
  rw [← EReal.coe_add]
  show (if var g c + epsK < 0 then (⊥ : EReal) else if var g c + epsK = 0 then ⊤ else (((√(var g c + epsK))⁻¹ : ℝ) : EReal)) = _
  rw [if_neg (not_lt.mpr h.le), if_neg h.ne']

/-- The layer's scale for a channel: `γ` times the reciprocal root of the variance plus the constant. -/
def scale (γ : Fin 16 → ℝ) (g : Feat) (c : Fin 16) : ℝ := γ c * (√(var g c + epsK))⁻¹

/-! ## Layer 1 -/

/-- The first product: the four batches side by side, times the first weight matrix. -/
theorem pay3_at {v6 v8 v10 v12 : Vec Ideal S1x16x4096 .f32} {v15 : Vec Ideal S16x16 .f32} {x : Feat}
    {W : Fin 16 → Fin 16 → ℝ} (h0 : ∀ k n, v6 (ix3 0 k n) = ((x 0 n k : ℝ) : EReal))
    (h1 : ∀ k n, v8 (ix3 0 k n) = ((x 1 n k : ℝ) : EReal)) (h2 : ∀ k n, v10 (ix3 0 k n) = ((x 2 n k : ℝ) : EReal))
    (h3 : ∀ k n, v12 (ix3 0 k n) = ((x 3 n k : ℝ) : EReal)) (hW : IsMat v15 W) :
    IsFeat (k0_pay3 v6 v8 v10 v12 v15) (lin W x) := by
  intro c j
  rw [← sum_lin hW]
  unfold k0_pay3
  pointwise
  refine Finset.sum_congr rfl fun k _ => congrArg (v15 (ix2 k c) * ·) ?_
  have hj := j.isLt
  split
  · rw [h0, show bOf j = 0 from Fin.ext (by simp only [bOf, Fin.val_zero]; omega)]
    exact congrArg (fun n => ((x 0 n k : ℝ) : EReal)) (Fin.ext (by simp only [nOf]; omega))
  · split
    · rw [h1, show bOf j = 1 from Fin.ext (by simp only [bOf, Fin.val_one]; omega)]
      exact congrArg (fun n => ((x 1 n k : ℝ) : EReal)) (Fin.ext (by simp only [nOf]; omega))
    · split
      · rw [h2, show bOf j = 2 from Fin.ext (by simp only [bOf, Fin.val_two]; omega)]
        exact congrArg (fun n => ((x 2 n k : ℝ) : EReal)) (Fin.ext (by simp only [nOf]; omega))
      · rw [h3, show bOf j = 3 from Fin.ext (by show (j : ℕ) / 4096 = 3; omega)]
        exact congrArg (fun n => ((x 3 n k : ℝ) : EReal)) (Fin.ext (by simp only [nOf]; omega))

/-- The first layer's means. -/
theorem pay4_at {v6 v8 v10 v12 : Vec Ideal S1x16x4096 .f32} {v15 : Vec Ideal S16x16 .f32} {g : Feat}
    (h : IsFeat (k0_pay3 v6 v8 v10 v12 v15) g) : IsCol (k0_pay4 v6 v8 v10 v12 v15) (mean g) := by
  intro c
  unfold k0_pay4
  pointwise
  exact sum_mean h c

/-- The first layer's variances. -/
theorem pay5_at {v6 v8 v10 v12 : Vec Ideal S1x16x4096 .f32} {v15 : Vec Ideal S16x16 .f32} {g : Feat}
    (h : IsFeat (k0_pay3 v6 v8 v10 v12 v15) g) : IsCol (k0_pay5 v6 v8 v10 v12 v15) (var g) := by
  intro c
  unfold k0_pay5
  pointwise
  rw [pay4_at h c]
  exact sum_var h c

/-- A row turned into a column by the identity matrix. -/
theorem pay6_at (v : Vec Ideal S1x16 .f32) (c : Fin 16) : k0_pay6 v (ix2 c 0) = v (ix2 0 c) := by
  unfold k0_pay6
  pointwise
  exact sum_eye_row c fun x => v (ix2 0 x)

/-- The constant the kernel adds to a variance. -/
theorem pay7_at : IsCol (k0_pay7 (F := Ideal)) (fun _ => epsK) := by
  intro c
  unfold k0_pay7
  pointwise
  exact named_eps

/-! ## The layer's end: scale, shift, positive part, next product -/

/-- The scaled and shifted features at a column, in the kernel's form, are the layer's result. -/
theorem act_at {h : FVec Ideal S16x16384 .f32} {m s : FVec Ideal S16x1 .f32} {v : Vec Ideal S1x16 .f32} {g : Feat}
    {γ : Fin 16 → ℝ} {β : Fin 16 → EReal} (hh : IsFeat h g) (hm : IsCol m (mean g)) (hs : IsCol s (scale γ g))
    (hv : ∀ c, v (ix2 0 c) = β c) (c : Fin 16) (j : Fin 16384) :
    max (h (ix2 c j) * s (ix2 c 0) + (∑ x, k0_pay1 (F := Ideal) (ix2 c x) * v (ix2 0 x) - m (ix2 c 0) * s (ix2 c 0))) 0
      = act γ β g (bOf j) (nOf j) c := by
  rw [sum_eye_row c fun x => v (ix2 0 x), hv, hh c j, hm c, hs c, ← EReal.coe_mul (mean g c)]
  exact act_of_scale γ β g (bOf j) (nOf j) c

/-- The second product: the first layer's result times the second weight matrix. -/
theorem pay8_at {v16 : FVec Ideal S16x16384 .f32} {v20 v27 v33 v34 : FVec Ideal S16x1 .f32} {v38 : Vec Ideal S1x16 .f32}
    {v52 : Vec Ideal S16x16 .f32} {g : Feat} {γ β : Fin 16 → ℝ} {W : Fin 16 → Fin 16 → ℝ} (h16 : IsFeat v16 g)
    (h20 : IsCol v20 (mean g)) (h27 : IsCol v27 (var g)) (h33 : IsCol v33 γ) (h34 : IsCol v34 fun _ => epsK)
    (h38 : ∀ c, v38 (ix2 0 c) = ((β c : ℝ) : EReal)) (h52 : IsMat v52 W) :
    IsFeat (k0_pay8 (k0_pay1 (F := Ideal)) v16 v20 v27 v33 v34 v38 v52) (lin W (actR γ β g)) := by
  have hs : IsCol (mulf v33 (rsqrt (addf v27 v34))) (scale γ g) := fun c => by
    pointwise
    rw [h27 c, h34 c, h33 c, rsqrt_var, ← EReal.coe_mul]; rfl
  intro c j
  rw [← sum_lin h52]
  unfold k0_pay8
  pointwise
  refine Finset.sum_congr rfl fun k _ => congrArg (v52 (ix2 k c) * ·) ?_
  rw [← act_coe, ← act_at h16 h20 hs h38 k j]
  pointwise

/-- The second layer's means. -/
theorem pay9_at {v4 : FVec Ideal S16x16 .f32} {v16 : FVec Ideal S16x16384 .f32} {v20 v27 v33 v34 : FVec Ideal S16x1 .f32}
    {v38 : Vec Ideal S1x16 .f32} {v52 : Vec Ideal S16x16 .f32} {g : Feat}
    (h : IsFeat (k0_pay8 v4 v16 v20 v27 v33 v34 v38 v52) g) :
    IsCol (k0_pay9 v4 v16 v20 v27 v33 v34 v38 v52) (mean g) := by
  intro c
  unfold k0_pay9
  pointwise
  exact sum_mean h c

/-- The second layer's scales. -/
theorem pay10_at {v16 : FVec Ideal S16x16384 .f32} {v20 v27 v33 v34 : FVec Ideal S16x1 .f32}
    {v38 : Vec Ideal S1x16 .f32} {v52 : Vec Ideal S16x16 .f32} {v65 : Vec Ideal S1x16 .f32} {g : Feat} {γ : Fin 16 → ℝ}
    (h : IsFeat (k0_pay8 (k0_pay1 (F := Ideal)) v16 v20 v27 v33 v34 v38 v52) g)
    (h65 : ∀ c, v65 (ix2 0 c) = ((γ c : ℝ) : EReal)) :
    IsCol (k0_pay10 (k0_pay1 (F := Ideal)) v16 v20 v27 v33 v34 v38 v52 v65) (scale γ g) := by
  intro c
  unfold k0_pay10
  pointwise
  rw [pay9_at h c, sum_eye_row c fun x => v65 (ix2 0 x), h65, named_eps, sum_var h c, rsqrt_var, ← EReal.coe_mul]
  rfl

/-- The third product: the second layer's result times the third weight matrix. -/
theorem pay11_at {v53 : FVec Ideal S16x16384 .f32} {v57 v74 : FVec Ideal S16x1 .f32} {v75 : Vec Ideal S1x16 .f32}
    {v89 : Vec Ideal S16x16 .f32} {g : Feat} {γ β : Fin 16 → ℝ} {W : Fin 16 → Fin 16 → ℝ} (h53 : IsFeat v53 g)
    (h57 : IsCol v57 (mean g)) (h74 : IsCol v74 (scale γ g)) (h75 : ∀ c, v75 (ix2 0 c) = ((β c : ℝ) : EReal))
    (h89 : IsMat v89 W) :
    IsFeat (k0_pay11 (k0_pay1 (F := Ideal)) v53 v57 v74 v75 v89) (lin W (actR γ β g)) := by
  intro c j
  rw [← sum_lin h89]
  unfold k0_pay11
  pointwise
  refine Finset.sum_congr rfl fun k _ => congrArg (v89 (ix2 k c) * ·) ?_
  rw [← act_coe]
  exact act_at h53 h57 h74 h75 k j

/-- The third layer's means. -/
theorem pay12_at {v4 : FVec Ideal S16x16 .f32} {v53 : FVec Ideal S16x16384 .f32} {v57 v74 : FVec Ideal S16x1 .f32}
    {v75 : Vec Ideal S1x16 .f32} {v89 : Vec Ideal S16x16 .f32} {g : Feat} (h : IsFeat (k0_pay11 v4 v53 v57 v74 v75 v89) g) :
    IsCol (k0_pay12 v4 v53 v57 v74 v75 v89) (mean g) := by
  intro c
  unfold k0_pay12
  pointwise
  exact sum_mean h c

/-- The third layer's scales. -/
theorem pay13_at {v53 : FVec Ideal S16x16384 .f32} {v57 v74 : FVec Ideal S16x1 .f32} {v75 : Vec Ideal S1x16 .f32}
    {v89 : Vec Ideal S16x16 .f32} {v102 : Vec Ideal S1x16 .f32} {g : Feat} {γ : Fin 16 → ℝ}
    (h : IsFeat (k0_pay11 (k0_pay1 (F := Ideal)) v53 v57 v74 v75 v89) g)
    (h102 : ∀ c, v102 (ix2 0 c) = ((γ c : ℝ) : EReal)) :
    IsCol (k0_pay13 (k0_pay1 (F := Ideal)) v53 v57 v74 v75 v89 v102) (scale γ g) := by
  intro c
  unfold k0_pay13
  pointwise
  rw [pay12_at h c, sum_eye_row c fun x => v102 (ix2 0 x), h102, named_eps, sum_var h c, rsqrt_var, ← EReal.coe_mul]
  rfl

/-! ## The result: every batch's mean over its nodes -/

/-- One row of the result: the ones row times the identity matrix times the batch's means, which lays the column of
    means out as a row. -/
theorem row_at {f : Fin 16 → Fin 4096 → EReal} (c : Fin 16) (i : Fin 1) :
    ∑ k, k0_pay2 (F := Ideal) (ix2 i k) * (k0_pay1 (F := Ideal) (ix2 k c)
        * ((∑ n, f k n) * Ideal.ofBits .f32 0x39800000#32))
      = (∑ n, f c n) * ((1 / 4096 : ℝ) : EReal) := by
  have h2 : ∀ k, k0_pay2 (F := Ideal) (ix2 i k) = 1 := fun k => by
    unfold k0_pay2
    pointwise
  simp only [h2, one_mul, word_inv4096]
  exact sum_eye_col c fun k => (∑ n, f k n) * ((1 / 4096 : ℝ) : EReal)

/-- The result block at a batch and a channel. -/
theorem pay16_at {v90 : FVec Ideal S16x16384 .f32} {v94 v111 : FVec Ideal S16x1 .f32} {v112 : Vec Ideal S1x16 .f32} {g : Feat}
    {γ : Fin 16 → ℝ} {β : Fin 16 → EReal} (h90 : IsFeat v90 g) (h94 : IsCol v94 (mean g)) (h111 : IsCol v111 (scale γ g))
    (h112 : ∀ c, v112 (ix2 0 c) = β c) (b : Fin 4) (c : Fin 16) :
    k0_pay16 (k0_pay1 (F := Ideal)) (k0_pay2 (F := Ideal)) v90 v94 v111 (k0_pay14 (k0_pay1 (F := Ideal)) v112)
      (k0_pay15 (F := Ideal)) (constant S16x1 .f32 0x00000000#32) (ix2 b c) = pooled γ β g b c := by
  have key : ∀ (k : Fin 16) (j : Fin 16384),
      max (v90 (ix2 k j) * v111 (ix2 k 0) + ((constant (F := Ideal) S16x1 .f32 0x00000000#32) (ix2 k 0)
        + ∑ x, k0_pay14 (k0_pay1 (F := Ideal)) v112 (ix2 k x) * k0_pay15 (F := Ideal) (ix2 x 0)
        - v94 (ix2 k 0) * v111 (ix2 k 0))) 0 = act γ β g (bOf j) (nOf j) k := fun k j => by
    unfold k0_pay14 k0_pay15
    pointwise
    exact act_at h90 h94 h111 h112 k j
  unfold k0_pay16
  generalize k0_pay14 (k0_pay1 (F := Ideal)) v112 = v115 at key ⊢
  generalize k0_pay15 (F := Ideal) = v116 at key ⊢
  generalize (constant (F := Ideal) S16x1 .f32 0x00000000#32) = z at key ⊢
  have row : ∀ (i : Fin 1) (b' : Fin 4) (p : Fin 4096 → Fin 16384) (_ : b' = b) (_ : ∀ n, (p n : ℕ) = b' * 4096 + n),
      ∑ k, k0_pay2 (F := Ideal) (ix2 i k) * (k0_pay1 (F := Ideal) (ix2 k c)
        * ((∑ n, act γ β g (bOf (p n)) (nOf (p n)) k) * Ideal.ofBits .f32 0x39800000#32)) = pooled γ β g b c := by
    rintro i b' p rfl hp
    have e : ∀ n, p n = colOf b' n := fun n => Fin.ext (hp n)
    simp only [e, bOf_colOf, nOf_colOf]
    exact row_at (f := fun k n => act γ β g b' n k) c i
  pointwise
  simp only [key]
  have hb := b.isLt
  split
  · exact row _ 0 (fun n => ⟨n, by omega⟩) (Fin.ext (by simp only [Fin.val_zero]; omega)) fun n => by simp
  · split
    · exact row _ 1 (fun n => ⟨4096 + n, by omega⟩) (Fin.ext (by simp only [Fin.val_one]; omega)) fun n => by simp
    · split
      · exact row _ 2 (fun n => ⟨8192 + n, by omega⟩) (Fin.ext (by simp only [Fin.val_two]; omega)) fun n => by simp
      · exact row _ 3 (fun n => ⟨12288 + n, by omega⟩) (Fin.ext (by show 3 = (b : ℕ); omega)) fun n => by
          show 12288 + (n : ℕ) = 3 * 4096 + n; omega

end Cert.Gnn.Kernel

end
-- ==== Proof.KernelValue.lean ====
/-
  The kernel's result array: the body's stored block as the network's formula, the arrays the launch hands to the body,
  and the one block that is the whole result.
-/
module

public import proofs.«01_k».proof.Proof.Gen.KernelIdeal.Value
public import proofs.«01_k».proof.Proof.KernelBlock
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Gnn.Kernel

open Idealize.ShloMosaic Idealize.ShloMosaic.TcCoe Idealize.SL.Sem Cert.KernelIdeal Cert.KernelIdeal.Gen Cert.Gnn
open Idealize.ShloMosaic.Pipeline (Dat)

/-- The zero start indices of rank two, as a constant function. -/
theorem zeros2 : (![0, 0] : Fin 2 → Nat) = fun _ => 0 := funext fun a => by fin_cases a <;> rfl
/-- The zero start indices of rank three, as a constant function. -/
theorem zeros3 : (![0, 0, 0] : Fin 3 → Nat) = fun _ => 0 := funext fun a => by fin_cases a <;> rfl

/-- The block the body stores, where its input blocks hold real numbers: the network's result. -/
theorem out_at {x0 : Vec Ideal S4x16x4096 .f32} {x1 x2 x3 : Vec Ideal S16x16 .f32} {x4 x5 x6 x7 x8 x9 : Vec Ideal S1x16 .f32}
    {x : Feat} {W1 W2 W3 : Fin 16 → Fin 16 → ℝ} {γ1 β1 γ2 β2 γ3 : Fin 16 → ℝ} {β3 : Fin 16 → EReal}
    (h0 : ∀ b k n, x0 (ix3 b k n) = ((x b n k : ℝ) : EReal)) (h1 : IsMat x1 W1) (h2 : IsMat x2 W2) (h3 : IsMat x3 W3)
    (h4 : ∀ c, x4 (ix2 0 c) = ((γ1 c : ℝ) : EReal)) (h5 : ∀ c, x5 (ix2 0 c) = ((β1 c : ℝ) : EReal))
    (h6 : ∀ c, x6 (ix2 0 c) = ((γ2 c : ℝ) : EReal)) (h7 : ∀ c, x7 (ix2 0 c) = ((β2 c : ℝ) : EReal))
    (h8 : ∀ c, x8 (ix2 0 c) = ((γ3 c : ℝ) : EReal)) (h9 : ∀ c, x9 (ix2 0 c) = β3 c) (b : Fin 4) (c : Fin 16) :
    out0_10 x0 x1 x2 x3 x4 x5 x6 x7 x8 x9 (ix2 b c) = network x W1 W2 W3 γ1 β1 γ2 β2 γ3 β3 b c := by
  have ld : ∀ (o : ℕ) (inb) (b : Fin 4) (_ : o = b) (k : Fin 16) (n : Fin 4096),
      View.ld x0 (Rect.unit (s := S4x16x4096) ![o, 0, 0] S1x16x4096.size inb) (ix3 0 k n) = ((x b n k : ℝ) : EReal) :=
    fun o inb b ho k n => (View.ld_unit_apply_of x0 ![o, 0, 0] S1x16x4096.size inb (ix3 0 k n) (ix3 b k n)
      (fun a => by fin_cases a <;> simp [ix3, ho])).trans (h0 b k n)
  have f1 : IsFeat (k0_pay18 x0 x1 x2 x3 x4 x5 x6 x7 x8 x9) (lin W1 x) := by
    unfold k0_pay18
    rw [View.ld_unit_zero (S := S16x16) zeros2]
    exact pay3_at (ld 0 _ 0 rfl) (ld 1 _ 1 rfl) (ld 2 _ 2 rfl) (ld 3 _ 3 rfl) h1
  have m1 : IsCol (k0_pay19 x0 x1 x2 x3 x4 x5 x6 x7 x8 x9) (mean (lin W1 x)) := pay4_at f1
  have w1 : IsCol (k0_pay20 x0 x1 x2 x3 x4 x5 x6 x7 x8 x9) (var (lin W1 x)) := pay5_at f1
  have g1 : IsCol (k0_pay21 x0 x1 x2 x3 x4 x5 x6 x7 x8 x9) γ1 := fun c => by
    unfold k0_pay21
    rw [View.ld_unit_zero (S := S1x16) zeros2, pay6_at, h4]
  have f2 : IsFeat (k0_pay23 x0 x1 x2 x3 x4 x5 x6 x7 x8 x9) (lin W2 (actR γ1 β1 (lin W1 x))) := by
    unfold k0_pay23
    rw [View.ld_unit_zero (S := S16x16) zeros2, View.ld_unit_zero (S := S1x16) zeros2]
    exact pay8_at f1 m1 w1 g1 pay7_at h5 h2
  have m2 : IsCol (k0_pay24 x0 x1 x2 x3 x4 x5 x6 x7 x8 x9) (mean (lin W2 (actR γ1 β1 (lin W1 x)))) := pay9_at f2
  have s2 : IsCol (k0_pay25 x0 x1 x2 x3 x4 x5 x6 x7 x8 x9) (scale γ2 (lin W2 (actR γ1 β1 (lin W1 x)))) := by
    unfold k0_pay25
    exact pay10_at f2 (by rw [View.ld_unit_zero (S := S1x16) zeros2]; exact h6)
  unfold out0_10
  rw [View.canon_unit_zero (S := S4x16) zeros2, View.ld_unit_zero (S := S16x16) zeros2]
  simp only [View.ld_unit_zero (S := S1x16) zeros2]
  have f3 := pay11_at f2 m2 s2 h7 h3
  exact pay16_at f3 (pay12_at f3) (pay13_at f3 h8) h9 b c

variable (m : (ℓ : Loc nD τ sig) → Buf (Elt Ideal) ℓ)

/-! ## The arrays the body finds -/

/-- The features, their last two axes exchanged. -/
theorem V_x (c : Dev nD) : (V m c main_call0_v0 : FVec Ideal S4x16x4096 .f32)
    = transpose S4x16x4096 [0, 2, 1] (m ((c : Thread nD τ).loc main_arg0)) transposes_S4x4096x16_S4x16x4096_0_2_1 := by
  unfold V hostOps0
  after_results_simp
  rfl

/-- What the launch finds as the first layer's scale: the vector reshaped to one row, as for the other five below. -/
theorem V_g1 (c : Dev nD) : (V m c main_call0_v1 : FVec Ideal S1x16 .f32)
    = shapeCast S1x16 (m ((c : Thread nD τ).loc main_arg4)) shapeCasts_S16_S1x16 := by
  unfold V hostOps0
  after_results_simp
  rfl
/-- What the launch finds as the first layer's shift. -/
theorem V_b1 (c : Dev nD) : (V m c main_call0_v2 : FVec Ideal S1x16 .f32)
    = shapeCast S1x16 (m ((c : Thread nD τ).loc main_arg5)) shapeCasts_S16_S1x16 := by
  unfold V hostOps0
  after_results_simp
  rfl
/-- What the launch finds as the second layer's scale. -/
theorem V_g2 (c : Dev nD) : (V m c main_call0_v3 : FVec Ideal S1x16 .f32)
    = shapeCast S1x16 (m ((c : Thread nD τ).loc main_arg6)) shapeCasts_S16_S1x16 := by
  unfold V hostOps0
  after_results_simp
  rfl
/-- What the launch finds as the second layer's shift. -/
theorem V_b2 (c : Dev nD) : (V m c main_call0_v4 : FVec Ideal S1x16 .f32)
    = shapeCast S1x16 (m ((c : Thread nD τ).loc main_arg7)) shapeCasts_S16_S1x16 := by
  unfold V hostOps0
  after_results_simp
  rfl
/-- What the launch finds as the third layer's scale. -/
theorem V_g3 (c : Dev nD) : (V m c main_call0_v5 : FVec Ideal S1x16 .f32)
    = shapeCast S1x16 (m ((c : Thread nD τ).loc main_arg8)) shapeCasts_S16_S1x16 := by
  unfold V hostOps0
  after_results_simp
  rfl
/-- What the launch finds as the third layer's shift. -/
theorem V_b3 (c : Dev nD) : (V m c main_call0_v6 : FVec Ideal S1x16 .f32)
    = shapeCast S1x16 (m ((c : Thread nD τ).loc main_arg9)) shapeCasts_S16_S1x16 := by
  unfold V hostOps0
  after_results_simp
  rfl

/-- A vector reshaped to one row, at an index. -/
theorem row_reshaped (v : FVec Ideal S16 .f32) (c : Fin 16) : shapeCast S1x16 v shapeCasts_S16_S1x16 (ix2 0 c) = v (ix1 c) := by
  pointwise

/-- An array with its last two axes exchanged, at an index. -/
theorem swapped (v : FVec Ideal S4x4096x16 .f32) (b : Fin 4) (k : Fin 16) (n : Fin 4096) :
    transpose S4x16x4096 [0, 2, 1] v transposes_S4x4096x16_S4x16x4096_0_2_1 (ix3 b k n) = v (ix3 b n k) := by
  pointwise

/-! ## The result array -/

/-- What the one grid point writes back. -/
abbrev stored (c : Dev nD) : FVec Ideal S4x16 .f32 :=
  out0_10 (V m c main_call0_v0) (V m c main_arg1) (V m c main_arg2) (V m c main_arg3) (V m c main_call0_v1) (V m c main_call0_v2)
    (V m c main_call0_v3) (V m c main_call0_v4) (V m c main_call0_v5) (V m c main_call0_v6)

/-- The one point writes back the block computed from the whole arrays: every window is its whole array. -/
theorem flushed_stored (c : Dev nD) (t : Fin cfg0.N) :
    (dats m 0 c).flushed 10 t = (win0_10.blk t).view.read (Elt Ideal) (stored m c) := by
  have e0 : iblk m c 0 t = V m c main_call0_v0 :=
    Memref.read_access_unit_zero (Elt Ideal) main_call0_v0 (funext fun a => Nat.zero_mul _) _ _
  have e1 : iblk m c 1 t = V m c main_arg1 :=
    Memref.read_access_unit_zero (Elt Ideal) main_arg1 (funext fun a => Nat.zero_mul _) _ _
  have e2 : iblk m c 2 t = V m c main_arg2 :=
    Memref.read_access_unit_zero (Elt Ideal) main_arg2 (funext fun a => Nat.zero_mul _) _ _
  have e3 : iblk m c 3 t = V m c main_arg3 :=
    Memref.read_access_unit_zero (Elt Ideal) main_arg3 (funext fun a => Nat.zero_mul _) _ _
  have e4 : iblk m c 4 t = V m c main_call0_v1 :=
    Memref.read_access_unit_zero (Elt Ideal) main_call0_v1 (funext fun a => Nat.zero_mul _) _ _
  have e5 : iblk m c 5 t = V m c main_call0_v2 :=
    Memref.read_access_unit_zero (Elt Ideal) main_call0_v2 (funext fun a => Nat.zero_mul _) _ _
  have e6 : iblk m c 6 t = V m c main_call0_v3 :=
    Memref.read_access_unit_zero (Elt Ideal) main_call0_v3 (funext fun a => Nat.zero_mul _) _ _
  have e7 : iblk m c 7 t = V m c main_call0_v4 :=
    Memref.read_access_unit_zero (Elt Ideal) main_call0_v4 (funext fun a => Nat.zero_mul _) _ _
  have e8 : iblk m c 8 t = V m c main_call0_v5 :=
    Memref.read_access_unit_zero (Elt Ideal) main_call0_v5 (funext fun a => Nat.zero_mul _) _ _
  have e9 : iblk m c 9 t = V m c main_call0_v6 :=
    Memref.read_access_unit_zero (Elt Ideal) main_call0_v6 (funext fun a => Nat.zero_mul _) _ _
  rw [Value.flushed10, e0, e1, e2, e3, e4, e5, e6, e7, e8, e9]
  exact (Memref.read_access_unit_zero (Elt Ideal) main_v0 (funext fun a => Nat.zero_mul _) _ _).symm

/-- The one block is the whole array. -/
theorem covered (i : S4x16.Idx) : ∃ t : Fin cfg0.N, (cfg0.win 10).flush t = true ∧ i ∈ ((cfg0.win 10).blk t).view.set := by
  have hN : cfg0.N = 1 := N_0
  have t : Fin cfg0.N := ⟨0, by omega⟩
  refine ⟨t, flush0_10 t, ?_⟩
  show i ∈ ((View.whole main_v0).slice (win0_10.rect t)).set
  rw [View.set_slice_whole, Rect.mem_set_unit]
  intro a
  have hz : win0_10.index t a * win0_10.size a = 0 := Nat.zero_mul _
  exact ⟨hz.le.trans (Nat.zero_le _), lt_of_lt_of_eq (i a).isLt (by
    show S4x16.size a = win0_10.index t a * win0_10.size a + S4x16.size a
    rw [hz, Nat.zero_add])⟩

/-- So the result array ends holding it. -/
theorem final_stored (c : Dev nD) : (dats m 0 c).arrAt 10 cfg0.N = stored m c :=
  (dats m 0 c).arrAt_eq_of_cover 10 (stored m c) (fun t _ => flushed_stored m c t) covered

/-- Where the argument arrays the result depends on hold real numbers (the last shift may be infinite), the result array ends
    holding the network's value. -/
theorem result_at (c : Dev nD) {x : Feat} {W1 W2 W3 : Fin 16 → Fin 16 → ℝ} {γ1 β1 γ2 β2 γ3 : Fin 16 → ℝ} {β3 : Fin 16 → EReal}
    (h0 : ∀ b n k, (m ((c : Thread nD τ).loc main_arg0) : FVec Ideal S4x4096x16 .f32) (ix3 b n k) = ((x b n k : ℝ) : EReal))
    (h1 : IsMat (m ((c : Thread nD τ).loc main_arg1)) W1) (h2 : IsMat (m ((c : Thread nD τ).loc main_arg2)) W2)
    (h3 : IsMat (m ((c : Thread nD τ).loc main_arg3)) W3)
    (h4 : ∀ k, (m ((c : Thread nD τ).loc main_arg4) : FVec Ideal S16 .f32) (ix1 k) = ((γ1 k : ℝ) : EReal))
    (h5 : ∀ k, (m ((c : Thread nD τ).loc main_arg5) : FVec Ideal S16 .f32) (ix1 k) = ((β1 k : ℝ) : EReal))
    (h6 : ∀ k, (m ((c : Thread nD τ).loc main_arg6) : FVec Ideal S16 .f32) (ix1 k) = ((γ2 k : ℝ) : EReal))
    (h7 : ∀ k, (m ((c : Thread nD τ).loc main_arg7) : FVec Ideal S16 .f32) (ix1 k) = ((β2 k : ℝ) : EReal))
    (h8 : ∀ k, (m ((c : Thread nD τ).loc main_arg8) : FVec Ideal S16 .f32) (ix1 k) = ((γ3 k : ℝ) : EReal))
    (h9 : ∀ k, (m ((c : Thread nD τ).loc main_arg9) : FVec Ideal S16 .f32) (ix1 k) = β3 k) (b : Fin 4) (k : Fin 16) :
    ((dats m 0 c).arrAt 10 cfg0.N : FVec Ideal S4x16 .f32) (ix2 b k) = network x W1 W2 W3 γ1 β1 γ2 β2 γ3 β3 b k := by
  rw [final_stored]
  refine out_at (fun b k n => ?_) ?_ ?_ ?_ (fun k => ?_) (fun k => ?_) (fun k => ?_) (fun k => ?_) (fun k => ?_) (fun k => ?_) b k
  · rw [V_x, swapped, h0]
  · rw [V_main_arg1]; exact h1
  · rw [V_main_arg2]; exact h2
  · rw [V_main_arg3]; exact h3
  · rw [V_g1, row_reshaped, h4]
  · rw [V_b1, row_reshaped, h5]
  · rw [V_g2, row_reshaped, h6]
  · rw [V_b2, row_reshaped, h7]
  · rw [V_g3, row_reshaped, h8]
  · rw [V_b3, row_reshaped, h9]

end Cert.Gnn.Kernel

end
-- ==== Proof.ReferenceBlock.lean ====
/-
  The reference's own operations at an index: the adjacency, its normalisation, one convolution, one batch norm, the pooling.
-/
module

public import proofs.«01_k».proof.Proof.Gen.ReferenceIdeal
public import proofs.«01_k».proof.Proof.Layer
public import proofs.«01_k».proof.Proof.Consts
public import Idealize.ShloMosaic.Lib.Pointwise

@[expose] public section

set_option maxRecDepth 16384

noncomputable section

namespace Cert.Gnn.Reference

open Idealize.ShloMosaic Cert.ReferenceIdeal Cert.ReferenceIdeal.Gen Cert.Gnn

/-- The adjacency: `relu(α · distance + (1 − α) · learned)`. -/
def adjacency (al : FVec Ideal S_ .f32) (dist learn : FVec Ideal S4096x4096 .f32) : FVec Ideal S4096x4096 .f32 :=
  maximumf (addf (mulf (broadcastInDim S4096x4096 ![] bcast_S_S4096x4096 al) dist)
    (mulf (broadcastInDim S4096x4096 ![] bcast_S_S4096x4096 (subf (constant S_ .f32 0x3F800000#32) al)) learn))
    (broadcastInDim S4096x4096 ![] bcast_S_S4096x4096 (constant S_ .f32 0x00000000#32))

/-- One over the square root of each row's degree. -/
def invRoot (A : FVec Ideal S4096x4096 .f32) : FVec Ideal S4096 .f32 :=
  Host.divf (broadcastInDim S4096 ![] bcast_S_S4096 (constant S_ .f32 0x3F800000#32))
    (Host.sqrt (addf (Host.reduceAdd A (constant S_ .f32 0x00000000#32) reducesTo_S4096x4096_S4096_d1 h_S_)
      (broadcastInDim S4096 ![] bcast_S_S4096 (constant S_ .f32 0x2EDBE6FF#32))))

/-- The adjacency scaled on both sides. -/
def scaled (r : FVec Ideal S4096 .f32) (A : FVec Ideal S4096x4096 .f32) : FVec Ideal S4096x4096 .f32 :=
  mulf (mulf (broadcastInDim S4096x4096 ![0, 1] bcast_S4096x1_S4096x4096_0_1 (broadcastInDim S4096x1 ![0] bcast_S4096_S4096x1_0 r)) A)
    (broadcastInDim S4096x4096 ![0, 1] bcast_S1x4096_S4096x4096_0_1 (broadcastInDim S1x4096 ![1] bcast_S4096_S1x4096_1 r))

/-- One graph convolution: the features times the weights, then the scaled adjacency along the nodes. -/
def conv (S : FVec Ideal S4096x4096 .f32) (h : FVec Ideal S4x4096x16 .f32) (W : FVec Ideal S16x16 .f32) : FVec Ideal S4x4096x16 .f32 :=
  transpose S4x4096x16 [0, 2, 1] (Host.dotGeneral dot_S4x4096x16_S4096x4096_S4x16x4096_1_1_02_0_n_n none
    (Host.dotGeneral dot_S4x4096x16_S16x16_S4x4096x16_2_0_01_1_n_n none h W) S) transposes_S4x16x4096_S4x4096x16_0_2_1

/-- The features less their channel means. -/
def centred (h : FVec Ideal S4x4096x16 .f32) : FVec Ideal S4x4096x16 .f32 :=
  subf h (broadcastInDim S4x4096x16 ![0, 1, 2] bcast_S1x1x16_S4x4096x16_0_1_2
    (Host.divf (broadcastInDim S1x1x16 ![2] bcast_S16_S1x1x16_2
      (Host.reduceAdd h (constant S_ .f32 0x00000000#32) reducesTo_S4x4096x16_S16_d0_1 h_S_))
      (broadcastInDim S1x1x16 ![] bcast_S_S1x1x16 (constant S_ .f32 0x46800000#32))))

/-- The number of elements a channel's variance divides by. -/
def count : FVec Ideal S_ .f32 := subf (constant S_ .f32 0x46800000#32) (sitofp .f32 (constantI S_ 32 0#32))

/-- The channel variances. -/
def variance (h : FVec Ideal S4x4096x16 .f32) : FVec Ideal S16 .f32 :=
  select (broadcastInDim S16 ![] bcast_S_S16 (cmpf .ogt count (constant S_ .f32 0x00000000#32)))
    (Host.divf (Host.reduceAdd (mulf (centred h) (centred h)) (constant S_ .f32 0x00000000#32) reducesTo_S4x4096x16_S16_d0_1 h_S_)
      (broadcastInDim S16 ![] bcast_S_S16 count))
    (broadcastInDim S16 ![] bcast_S_S16 (id (constant S_ .f32 0x7FC00000#32)))

/-- A vector over the channels, along every batch and node. -/
def spread (v : FVec Ideal S16 .f32) : FVec Ideal S4x4096x16 .f32 :=
  broadcastInDim S4x4096x16 ![0, 1, 2] bcast_S1x1x16_S4x4096x16_0_1_2 (broadcastInDim S1x1x16 ![2] bcast_S16_S1x1x16_2 v)

/-- Batch norm and relu. -/
def normRelu (h : FVec Ideal S4x4096x16 .f32) (γ β : FVec Ideal S16 .f32) : FVec Ideal S4x4096x16 .f32 :=
  maximumf (addf (Host.divf (mulf (spread γ) (subf h (spread
      (Host.divf (Host.reduceAdd h (constant S_ .f32 0x00000000#32) reducesTo_S4x4096x16_S16_d0_1 h_S_)
        (broadcastInDim S16 ![] bcast_S_S16 (constant S_ .f32 0x46800000#32))))))
    (spread (Host.sqrt (addf (variance h) (broadcastInDim S16 ![] bcast_S_S16 (constant S_ .f32 0x3727C5AC#32)))))) (spread β))
    (broadcastInDim S4x4096x16 ![] bcast_S_S4x4096x16 (constant S_ .f32 0x00000000#32))

/-! ## Scalars -/

/-- The square root of a real number that is not negative. -/
theorem sqrt_real {r : ℝ} (h : 0 ≤ r) : Ideal.sqrt ((r : ℝ) : EReal) = ((√r : ℝ) : EReal) := by
  rw [Ideal.sqrt_coe, if_neg (not_lt.mpr h)]

/-- Division of real numbers. -/
theorem div_real (x : ℝ) {y : ℝ} (h : y ≠ 0) : Ideal.div ((x : ℝ) : EReal) ((y : ℝ) : EReal) = ((x / y : ℝ) : EReal) := by
  rw [Ideal.div_coe h, ← EReal.coe_mul]
  exact congrArg _ (by ring)

/-- The integer zero as a number. -/
theorem zero_int : (FloatOps.sitofp FTy.f32 (0#32) : Ideal FTy.f32) = ((0 : ℝ) : EReal) := by
  show (((0#32 : BitVec 32).toInt : ℝ) : EReal) = _
  simp

/-- The divisor of the variance is `16384`. -/
theorem count_eq : Ideal.ofBits .f32 0x46800000#32 - (FloatOps.sitofp FTy.f32 (0#32) : Ideal FTy.f32) = ((16384 : ℝ) : EReal) := by
  rw [zero_int, word_16384, ← EReal.coe_sub, sub_zero]

/-! ## Sums over batch and node -/

/-- A sum over the first two axes is the sum over batches of the sums over nodes. -/
theorem sum_batch_node (h : S4x4096x16.ReducesTo [0, 1] S16) (x : FVec Ideal S4x4096x16 .f32) (c : Fin 16) :
    Ideal.hostReduceAdd h x 0 (ix1 c) = ∑ b : Fin 4, ∑ n : Fin 4096, x (ix3 b n c) := by
  have key (i : S4x4096x16.Idx) : h.drop i = ix1 c ↔ i 2 = c := by
    have e : (h.drop i 0 : ℕ) = i 2 := h.drop_apply_val_of_eq i 0 2
    constructor
    · intro hi
      rw [hi] at e
      exact Fin.ext e.symm
    · intro hi
      refine funext fun a => ?_
      fin_cases a
      exact Fin.ext (e.trans (congrArg Fin.val hi))
  unfold Ideal.hostReduceAdd
  rw [zero_add, ← Fintype.sum_prod_type' (fun (b : Fin 4) (n : Fin 4096) => x (ix3 b n c))]
  refine Finset.sum_bij' (fun i _ => ((i 0 : Fin 4), (i 1 : Fin 4096))) (fun q _ => ix3 q.1 q.2 c) ?_ ?_ ?_ ?_ ?_
  · exact fun _ _ => Finset.mem_univ _
  · exact fun q _ => Finset.mem_filter.mpr ⟨Finset.mem_univ _, (key _).mpr rfl⟩
  · intro i hi
    have e := (key i).mp (Finset.mem_filter.mp hi).2
    conv_rhs => rw [← ix3_eta i]
    rw [e]
  · exact fun _ _ => rfl
  · intro i hi
    have e := (key i).mp (Finset.mem_filter.mp hi).2
    conv_lhs => rw [← ix3_eta i]
    rw [e]

/-- The reference's channel mean of real features. -/
theorem mean_at {h : FVec Ideal S4x4096x16 .f32} {g : Feat} (hh : ∀ b n k, h (ix3 b n k) = ((g b n k : ℝ) : EReal)) (c : Fin 16) :
    Ideal.div (Ideal.hostReduceAdd reducesTo_S4x4096x16_S16_d0_1 h 0 (ix1 c)) (Ideal.ofBits FTy.f32 0x46800000#32)
      = ((mean g c : ℝ) : EReal) := by
  have e : ∑ b : Fin 4, ∑ n : Fin 4096, h (ix3 b n c) = ((∑ b, ∑ n, g b n c : ℝ) : EReal) := by
    rw [coe_sum]
    refine Finset.sum_congr rfl fun b _ => ?_
    rw [coe_sum]
    exact Finset.sum_congr rfl fun n _ => hh b n c
  rw [sum_batch_node, e, word_16384, div_real _ (by norm_num)]
  rfl

/-! ## The adjacency at setup -/

/-- With weight one and the identity as distance matrix the adjacency is the identity, whatever was learned. -/
theorem adjacency_at {al : FVec Ideal S_ .f32} {dist learn : FVec Ideal S4096x4096 .f32} (ha : al ix0 = 1)
    (hd : ∀ i j, dist (ix2 i j) = if i = j then 1 else 0) (i j : Fin 4096) :
    adjacency al dist learn (ix2 i j) = if i = j then 1 else 0 := by
  unfold adjacency
  pointwise
  have h1 : (1 : EReal) - 1 = 0 := by rw [← EReal.coe_one, ← EReal.coe_sub, sub_self, EReal.coe_zero]
  rw [ha, hd, h1, zero_mul, one_mul, add_zero]
  split
  · exact max_eq_left zero_le_one
  · exact max_self 0

/-- Every node's degree is one, plus the constant under the root. -/
theorem invRoot_at {A : FVec Ideal S4096x4096 .f32} (hA : ∀ i j, A (ix2 i j) = if i = j then 1 else 0) (i : Fin 4096) :
    invRoot A (ix1 i) = (((√deg)⁻¹ : ℝ) : EReal) := by
  unfold invRoot
  pointwise
  have e : ∑ x, A (ix2 i x) = ((1 : ℝ) : EReal) := by
    rw [Finset.sum_congr rfl fun x _ => hA i x, Finset.sum_ite_eq, if_pos (Finset.mem_univ _), EReal.coe_one]
  rw [e, word_epsDeg, ← EReal.coe_add]
  show Ideal.div 1 (Ideal.sqrt ((deg : ℝ) : EReal)) = _
  rw [sqrt_real deg_pos.le, ← EReal.coe_one, div_real _ (Real.sqrt_pos.mpr deg_pos).ne']
  exact congrArg _ (one_div _)

/-- So the scaled adjacency is the identity over the degree. -/
theorem scaled_at {A : FVec Ideal S4096x4096 .f32} {r : FVec Ideal S4096 .f32} (hA : ∀ i j, A (ix2 i j) = if i = j then 1 else 0)
    (hr : ∀ i, r (ix1 i) = (((√deg)⁻¹ : ℝ) : EReal)) (i j : Fin 4096) :
    scaled r A (ix2 i j) = if i = j then ((deg⁻¹ : ℝ) : EReal) else 0 := by
  unfold scaled
  pointwise
  rw [hr, hr, hA]
  split
  · rw [mul_one, ← EReal.coe_mul, ← mul_inv, Real.mul_self_sqrt deg_pos.le]
  · rw [mul_zero, zero_mul]

/-! ## A layer -/

/-- A convolution over the identity is the linear part over the degree. -/
theorem conv_at {S : FVec Ideal S4096x4096 .f32} {h : FVec Ideal S4x4096x16 .f32} {W : FVec Ideal S16x16 .f32}
    {g : Feat} {w : Fin 16 → Fin 16 → ℝ} (hS : ∀ i j, S (ix2 i j) = if i = j then ((deg⁻¹ : ℝ) : EReal) else 0)
    (hh : ∀ b n k, h (ix3 b n k) = ((g b n k : ℝ) : EReal)) (hW : ∀ k c, W (ix2 k c) = ((w k c : ℝ) : EReal))
    (b : Fin 4) (n : Fin 4096) (c : Fin 16) : conv S h W (ix3 b n c) = ((lin w g b n c * deg⁻¹ : ℝ) : EReal) := by
  unfold conv
  pointwise
  have e : ∀ x, ∑ k, h (ix3 b x k) * W (ix2 k c) = ((lin w g b x c : ℝ) : EReal) := fun x => by
    unfold lin
    rw [coe_sum]
    exact Finset.sum_congr rfl fun k _ => by rw [hh, hW, EReal.coe_mul]
  simp only [e, hS, mul_ite, mul_zero, Finset.sum_ite_eq, Finset.mem_univ, if_true]
  rw [EReal.coe_mul]

/-- The features less their means. -/
theorem centred_at {h : FVec Ideal S4x4096x16 .f32} {g : Feat} (hh : ∀ b n k, h (ix3 b n k) = ((g b n k : ℝ) : EReal))
    (b : Fin 4) (n : Fin 4096) (c : Fin 16) : centred h (ix3 b n c) = ((g b n c - mean g c : ℝ) : EReal) := by
  unfold centred
  pointwise
  rw [mean_at hh, hh, EReal.coe_sub]

/-- The channel variance. -/
theorem variance_at {h : FVec Ideal S4x4096x16 .f32} {g : Feat} (hh : ∀ b n k, h (ix3 b n k) = ((g b n k : ℝ) : EReal))
    (c : Fin 16) : variance h (ix1 c) = ((var g c : ℝ) : EReal) := by
  unfold variance count
  pointwise
  have e : ∑ b : Fin 4, ∑ n : Fin 4096, mulf (centred h) (centred h) (ix3 b n c)
      = ((∑ b, ∑ n, (g b n c - mean g c) * (g b n c - mean g c) : ℝ) : EReal) := by
    rw [coe_sum]
    refine Finset.sum_congr rfl fun b _ => ?_
    rw [coe_sum]
    refine Finset.sum_congr rfl fun n _ => ?_
    show centred h (ix3 b n c) * centred h (ix3 b n c) = _
    rw [centred_at hh, ← EReal.coe_mul]
  rw [count_eq, if_pos (by exact_mod_cast (by norm_num : (0 : ℝ) < 16384)), sum_batch_node, e, div_real _ (by norm_num)]
  rfl

/-- Batch norm and relu of features over the degree: the layer, with the kernel's constant under the root. -/
theorem normRelu_at {h : FVec Ideal S4x4096x16 .f32} {γ β : FVec Ideal S16 .f32} {g : Feat} {u : Fin 16 → ℝ} {s : Fin 16 → EReal}
    (hh : ∀ b n k, h (ix3 b n k) = ((g b n k * deg⁻¹ : ℝ) : EReal)) (hγ : ∀ c, γ (ix1 c) = ((u c : ℝ) : EReal))
    (hβ : ∀ c, β (ix1 c) = s c) (b : Fin 4) (n : Fin 4096) (c : Fin 16) :
    normRelu h γ β (ix3 b n c) = act u s g b n c := by
  unfold normRelu spread
  pointwise
  have hp : 0 < var (fun b n c => g b n c * deg⁻¹) c + epsBn := add_pos_of_nonneg_of_pos (var_nonneg _ c) epsBn_pos
  rw [mean_at (g := fun b n c => g b n c * deg⁻¹) hh, variance_at (g := fun b n c => g b n c * deg⁻¹) hh, hh, hγ, hβ, word_epsBn,
    ← EReal.coe_sub, ← EReal.coe_mul, ← EReal.coe_add, sqrt_real hp.le, div_real _ (Real.sqrt_pos.mpr hp).ne', div_eq_mul_inv,
    normed_of_div]
  rfl

/-- One whole layer of the reference at setup. -/
theorem layer_at {al : FVec Ideal S_ .f32} {dist learn : FVec Ideal S4096x4096 .f32} {h : FVec Ideal S4x4096x16 .f32}
    {W : FVec Ideal S16x16 .f32} {γ β : FVec Ideal S16 .f32} {g : Feat} {w : Fin 16 → Fin 16 → ℝ} {u : Fin 16 → ℝ} {s : Fin 16 → EReal}
    (ha : al ix0 = 1) (hd : ∀ i j, dist (ix2 i j) = if i = j then 1 else 0)
    (hh : ∀ b n k, h (ix3 b n k) = ((g b n k : ℝ) : EReal)) (hW : ∀ k c, W (ix2 k c) = ((w k c : ℝ) : EReal))
    (hγ : ∀ c, γ (ix1 c) = ((u c : ℝ) : EReal)) (hβ : ∀ c, β (ix1 c) = s c) (b : Fin 4) (n : Fin 4096) (c : Fin 16) :
    normRelu (conv (scaled (invRoot (adjacency al dist learn)) (adjacency al dist learn)) h W) γ β (ix3 b n c)
      = act u s (lin w g) b n c :=
  have hA := adjacency_at (learn := learn) ha hd
  normRelu_at (conv_at (scaled_at hA (invRoot_at hA)) hh hW) hγ hβ b n c

/-- The mean over the nodes. -/
def pool (h : FVec Ideal S4x4096x16 .f32) : FVec Ideal S4x16 .f32 :=
  Host.divf (Host.reduceAdd h (constant S_ .f32 0x00000000#32) reducesTo_S4x4096x16_S4x16_d1 h_S_)
    (broadcastInDim S4x16 ![] bcast_S_S4x16 (constant S_ .f32 0x45800000#32))

/-- The pooled features at batch element and channel, from the features as rectified affine images of real numbers. -/
theorem pool_at {h : FVec Ideal S4x4096x16 .f32} {u : Fin 16 → ℝ} {s : Fin 16 → EReal} {g : Feat}
    (hh : ∀ b n c, h (ix3 b n c) = act u s g b n c) (b : Fin 4) (c : Fin 16) : pool h (ix2 b c) = pooled u s g b c := by
  unfold pool pooled
  pointwise
  rw [word_4096, Ideal.div_coe (by norm_num), Finset.sum_congr rfl fun n _ => hh b n c]

end Cert.Gnn.Reference

end
-- ==== Proof.ReferenceValue.lean ====
/-
  The reference's result array: three layers and the pooling, over the argument arrays.
-/
module

public import proofs.«01_k».proof.Proof.Gen.ReferenceIdeal.Run
public import proofs.«01_k».proof.Proof.ReferenceBlock

@[expose] public section

set_option maxRecDepth 16384

noncomputable section

namespace Cert.Gnn.Reference

open Idealize.ShloMosaic Idealize.ShloMosaic.TcCoe Idealize.SL.Sem Cert.ReferenceIdeal Cert.ReferenceIdeal.Gen Cert.Gnn
open Cert.ReferenceIdeal.Value

/-- The scaled adjacency of a layer whose mixing weight is `al`. -/
abbrev support (al : FVec Ideal S_ .f32) (dist learn : FVec Ideal S4096x4096 .f32) : FVec Ideal S4096x4096 .f32 :=
  scaled (invRoot (adjacency al dist learn)) (adjacency al dist learn)

/-- The first layer's mixing weight. -/
abbrev alpha0 (a : FVec Ideal S3 .f32) : FVec Ideal S_ .f32 := shapeCast S_ (extractStridedSlice S1 ![0] a slices_S3_S1_0) shapeCasts_S1_S_
/-- The second layer's mixing weight. -/
abbrev alpha1 (a : FVec Ideal S3 .f32) : FVec Ideal S_ .f32 := shapeCast S_ (extractStridedSlice S1 ![1] a slices_S3_S1_1) shapeCasts_S1_S_
/-- The third layer's mixing weight. -/
abbrev alpha2 (a : FVec Ideal S3 .f32) : FVec Ideal S_ .f32 := shapeCast S_ (extractStridedSlice S1 ![2] a slices_S3_S1_2) shapeCasts_S1_S_

/-- The first mixing weight is one if all are. -/
theorem alpha0_at {a : FVec Ideal S3 .f32} (h : ∀ i, a (ix1 i) = 1) : alpha0 a ix0 = 1 := by
  unfold alpha0
  pointwise
  exact h _
/-- The second mixing weight is one if all are. -/
theorem alpha1_at {a : FVec Ideal S3 .f32} (h : ∀ i, a (ix1 i) = 1) : alpha1 a ix0 = 1 := by
  unfold alpha1
  pointwise
  exact h _
/-- The third mixing weight is one if all are. -/
theorem alpha2_at {a : FVec Ideal S3 .f32} (h : ∀ i, a (ix1 i) = 1) : alpha2 a ix0 = 1 := by
  unfold alpha2
  pointwise
  exact h _

variable (V : Valuation τ sig (Elt Ideal))

/-- Layer 1's features before the batch norm. -/
theorem conv1_eq : res_main_v25 V = conv (support (alpha0 (V (Proc.devRef .tc main_arg11))) (V (Proc.devRef .tc main_arg12))
    (V (Proc.devRef .tc main_arg10))) (V (Proc.devRef .tc main_arg0)) (V (Proc.devRef .tc main_arg1)) := rfl

/-- Layer 2's. -/
theorem conv2_eq : res_main_v71 V = conv (support (alpha1 (V (Proc.devRef .tc main_arg11))) (V (Proc.devRef .tc main_arg12))
    (V (Proc.devRef .tc main_arg10))) (normRelu (res_main_v25 V) (V (Proc.devRef .tc main_arg4)) (V (Proc.devRef .tc main_arg5)))
    (V (Proc.devRef .tc main_arg2)) := rfl

/-- Layer 3's. -/
theorem conv3_eq : res_main_v117 V = conv (support (alpha2 (V (Proc.devRef .tc main_arg11))) (V (Proc.devRef .tc main_arg12))
    (V (Proc.devRef .tc main_arg10))) (normRelu (res_main_v71 V) (V (Proc.devRef .tc main_arg6)) (V (Proc.devRef .tc main_arg7)))
    (V (Proc.devRef .tc main_arg3)) := rfl

/-- The reference's result. -/
def result : FVec Ideal S4x16 .f32 := pool (normRelu (res_main_v117 V) (V (Proc.devRef .tc main_arg8)) (V (Proc.devRef .tc main_arg9)))

/-- At setup, with real inputs (the last shift may be infinite), the reference's result is the network's value. -/
theorem result_at {x : Feat} {W1 W2 W3 : Fin 16 → Fin 16 → ℝ} {γ1 β1 γ2 β2 γ3 : Fin 16 → ℝ} {β3 : Fin 16 → EReal}
    (h0 : ∀ b n k, (V (Proc.devRef .tc main_arg0) : FVec Ideal S4x4096x16 .f32) (ix3 b n k) = ((x b n k : ℝ) : EReal))
    (h1 : ∀ k c, (V (Proc.devRef .tc main_arg1) : FVec Ideal S16x16 .f32) (ix2 k c) = ((W1 k c : ℝ) : EReal))
    (h2 : ∀ k c, (V (Proc.devRef .tc main_arg2) : FVec Ideal S16x16 .f32) (ix2 k c) = ((W2 k c : ℝ) : EReal))
    (h3 : ∀ k c, (V (Proc.devRef .tc main_arg3) : FVec Ideal S16x16 .f32) (ix2 k c) = ((W3 k c : ℝ) : EReal))
    (h4 : ∀ k, (V (Proc.devRef .tc main_arg4) : FVec Ideal S16 .f32) (ix1 k) = ((γ1 k : ℝ) : EReal))
    (h5 : ∀ k, (V (Proc.devRef .tc main_arg5) : FVec Ideal S16 .f32) (ix1 k) = ((β1 k : ℝ) : EReal))
    (h6 : ∀ k, (V (Proc.devRef .tc main_arg6) : FVec Ideal S16 .f32) (ix1 k) = ((γ2 k : ℝ) : EReal))
    (h7 : ∀ k, (V (Proc.devRef .tc main_arg7) : FVec Ideal S16 .f32) (ix1 k) = ((β2 k : ℝ) : EReal))
    (h8 : ∀ k, (V (Proc.devRef .tc main_arg8) : FVec Ideal S16 .f32) (ix1 k) = ((γ3 k : ℝ) : EReal))
    (h9 : ∀ k, (V (Proc.devRef .tc main_arg9) : FVec Ideal S16 .f32) (ix1 k) = β3 k)
    (h11 : ∀ i, (V (Proc.devRef .tc main_arg11) : FVec Ideal S3 .f32) (ix1 i) = (1 : EReal))
    (h12 : ∀ i j, (V (Proc.devRef .tc main_arg12) : FVec Ideal S4096x4096 .f32) (ix2 i j) = if i = j then (1 : EReal) else 0)
    (b : Fin 4) (c : Fin 16) : result V (ix2 b c) = network x W1 W2 W3 γ1 β1 γ2 β2 γ3 β3 b c := by
  have l1 : ∀ b n k, normRelu (res_main_v25 V) (V (Proc.devRef .tc main_arg4)) (V (Proc.devRef .tc main_arg5)) (ix3 b n k)
      = ((actR γ1 β1 (lin W1 x) b n k : ℝ) : EReal) := fun b n k => by
    rw [conv1_eq]
    exact (layer_at (alpha0_at h11) h12 h0 h1 h4 h5 b n k).trans (act_coe γ1 β1 _ b n k)
  have l2 : ∀ b n k, normRelu (res_main_v71 V) (V (Proc.devRef .tc main_arg6)) (V (Proc.devRef .tc main_arg7)) (ix3 b n k)
      = ((actR γ2 β2 (lin W2 (actR γ1 β1 (lin W1 x))) b n k : ℝ) : EReal) := fun b n k => by
    rw [conv2_eq]
    exact (layer_at (alpha1_at h11) h12 l1 h2 h6 h7 b n k).trans (act_coe γ2 β2 _ b n k)
  have l3 : ∀ b n k, normRelu (res_main_v117 V) (V (Proc.devRef .tc main_arg8)) (V (Proc.devRef .tc main_arg9)) (ix3 b n k)
      = act γ3 β3 (lin W3 (actR γ2 β2 (lin W2 (actR γ1 β1 (lin W1 x))))) b n k := fun b n k => by
    rw [conv3_eq]
    exact layer_at (alpha2_at h11) h12 l2 h3 h8 h9 b n k
  exact pool_at l3 b c

end Cert.Gnn.Reference

end
-- ==== Proof.Pre.lean ====
/-
  The precondition, read element by element: which arrays hold real numbers, and what the adjacency's two arrays hold.
-/
module

public import proofs.«01_k».proof.Pre_as_set_up
public import proofs.«01_k».proof.Proof.Consts
public import Idealize.ShloMosaic.Lib.Decide
public import Idealize.ShloMosaic.Lib.Affine
public import Idealize.ShloMosaic.Lib.Pointwise

@[expose] public section

set_option maxRecDepth 16384

noncomputable section

namespace Cert.Gnn.Pre

open Idealize.ShloMosaic Cert.Pre_as_set_up Cert.Gnn

/-- The predicate's shape facts. -/
instance facts : Cert.Pre_as_set_up.Facts where
  bcast_S_S3 := by decide
  bcast_S_S4x4096x16 := by decide
  bcast_S_S16x16 := by decide
  bcast_S_S16 := by decide

/-- An extended real of absolute value below infinity is a real number. -/
theorem real_of_abs {x : EReal} (h : Ideal.cmp .olt (max x (-x)) ⊤ = 1#1) : x = ((x.toReal : ℝ) : EReal) := by
  refine (EReal.coe_toReal ?_ ?_).symm
  · rintro rfl; simp [Ideal.cmp] at h
  · rintro rfl; simp [Ideal.cmp] at h

/-- Two extended reals that compare equal are equal. -/
theorem eq_of_cmp {x y : EReal} (h : Ideal.cmp .oeq x y = 1#1) : x = y := by
  by_contra hne
  simp [Ideal.cmp, hne] at h

/-- The test `|a| < ∞` on a whole array, at one element. -/
theorem real_of_test {S : Shape} {hb : S_.BroadcastsInDim S (![] : Fin 0 → Fin S.rank)} {a : FVec Ideal S .f32}
    (h : cmpf .olt (Host.absf a) (broadcastInDim S ![] hb (constant (F := Ideal) S_ .f32 0x7F800000#32)) = fun _ => 1#1) (i : S.Idx) :
    a i = (((a i).toReal : ℝ) : EReal) := by
  refine real_of_abs ?_
  have e := congrFun h i
  rw [← word_inf]
  exact e

variable {a0 : FVec Ideal S4x4096x16 .f32} {a1 a2 a3 : FVec Ideal S16x16 .f32} {a4 a5 a6 a7 a8 a9 : FVec Ideal S16 .f32}
  {a10 : FVec Ideal S4096x4096 .f32} {a11 : FVec Ideal S3 .f32} {a12 : FVec Ideal S4096x4096 .f32}

/-- The mixing weights are one. -/
theorem alphas_at (h : (fn a0 a1 a2 a3 a4 a5 a6 a7 a8 a9 a10 a11 a12).1 = fun _ => 1#1) (i : Fin 3) : a11 (ix1 i) = 1 := by
  refine eq_of_cmp ?_
  have e : Ideal.cmp .oeq (a11 (ix1 i)) (Ideal.ofBits .f32 0x3F800000#32) = 1#1 := congrFun h (ix1 i)
  rwa [word_one] at e

/-- Comparing two row numbers gives the one-bit truth of their equality. -/
theorem numbers_eq (i j : Fin 4096) :
    IntOp.cmpi .eq (BitVec.ofNat 32 (i : ℕ)) (BitVec.ofNat 32 (j : ℕ)) = if i = j then 1#1 else 0#1 := by
  have hi := i.isLt
  have hj := j.isLt
  have h : BitVec.ofNat 32 (i : ℕ) = BitVec.ofNat 32 (j : ℕ) ↔ i = j := by
    rw [← BitVec.toNat_inj, BitVec.toNat_ofNat, BitVec.toNat_ofNat, Nat.mod_eq_of_lt (by omega), Nat.mod_eq_of_lt (by omega), Fin.ext_iff]
  show BitVec.ofBool (BitVec.ofNat 32 (i : ℕ) == BitVec.ofNat 32 (j : ℕ)) = _
  by_cases e : i = j
  · subst e; simp
  · rw [if_neg e, beq_eq_false_iff_ne.mpr (fun e' => e (h.mp e'))]; rfl

/-- The distance matrix is the identity. -/
theorem dist_at (h : (fn a0 a1 a2 a3 a4 a5 a6 a7 a8 a9 a10 a11 a12).2.1 = fun _ => 1#1) (i j : Fin 4096) :
    a12 (ix2 i j) = if i = j then 1 else 0 := by
  have e : Ideal.cmp .oeq (a12 (ix2 i j)) (uitofp (F := Ideal) .f32 (cmpi .eq (iotaInDim S4096x4096 32 0)
    (iotaInDim S4096x4096 32 1)) (ix2 i j)) = 1#1 := congrFun h (ix2 i j)
  rw [eq_of_cmp e]
  pointwise
  rw [numbers_eq]
  split
  · show (((1#1 : BitVec 1).toNat : ℝ) : EReal) = 1
    simp
  · show (((0#1 : BitVec 1).toNat : ℝ) : EReal) = 0
    simp

end Cert.Gnn.Pre

end
-- ==== Proof.Equation.lean ====
/-
  The two results are equal wherever the precondition holds.
-/
module

public import proofs.«01_k».proof.Proof.KernelValue
public import proofs.«01_k».proof.Proof.ReferenceValue
public import proofs.«01_k».proof.Proof.Pre

@[expose] public section

set_option maxRecDepth 16384

noncomputable section

namespace Cert.Gnn.Equation

open Idealize.ShloMosaic Idealize.ShloMosaic.TcCoe Idealize.SL.Sem Cert.Gnn

/-- Two `(4, 16)` arrays equal at every pair of indices are equal. -/
theorem ext_ix2 {f g : FVec Ideal Cert.KernelIdeal.S4x16 .f32} (h : ∀ b c, f (ix2 b c) = g (ix2 b c)) : f = g :=
  funext fun j => by rw [eq_ix2 j]; exact h _ _

/-- Under the precondition on the kernel's arguments, and with the reference's arguments the same arrays, the kernel's result
    array ends equal to the reference's result, element by element. -/
theorem results_eq (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    {a0 : FVec Ideal Cert.Pre_as_set_up.S4x4096x16 .f32} {a1 a2 a3 : FVec Ideal Cert.Pre_as_set_up.S16x16 .f32}
    {a4 a5 a6 a7 a8 a9 : FVec Ideal Cert.Pre_as_set_up.S16 .f32}
    {a10 : FVec Ideal Cert.Pre_as_set_up.S4096x4096 .f32} {a11 : FVec Ideal Cert.Pre_as_set_up.S3 .f32} {a12 : FVec Ideal Cert.Pre_as_set_up.S4096x4096 .f32}
    (k0 : m ((c : Thread Cert.KernelIdeal.nD Cert.KernelIdeal.τ).loc Cert.KernelIdeal.main_arg0) = a0)
    (k1 : m ((c : Thread Cert.KernelIdeal.nD Cert.KernelIdeal.τ).loc Cert.KernelIdeal.main_arg1) = a1)
    (k2 : m ((c : Thread Cert.KernelIdeal.nD Cert.KernelIdeal.τ).loc Cert.KernelIdeal.main_arg2) = a2)
    (k3 : m ((c : Thread Cert.KernelIdeal.nD Cert.KernelIdeal.τ).loc Cert.KernelIdeal.main_arg3) = a3)
    (k4 : m ((c : Thread Cert.KernelIdeal.nD Cert.KernelIdeal.τ).loc Cert.KernelIdeal.main_arg4) = a4)
    (k5 : m ((c : Thread Cert.KernelIdeal.nD Cert.KernelIdeal.τ).loc Cert.KernelIdeal.main_arg5) = a5)
    (k6 : m ((c : Thread Cert.KernelIdeal.nD Cert.KernelIdeal.τ).loc Cert.KernelIdeal.main_arg6) = a6)
    (k7 : m ((c : Thread Cert.KernelIdeal.nD Cert.KernelIdeal.τ).loc Cert.KernelIdeal.main_arg7) = a7)
    (k8 : m ((c : Thread Cert.KernelIdeal.nD Cert.KernelIdeal.τ).loc Cert.KernelIdeal.main_arg8) = a8)
    (k9 : m ((c : Thread Cert.KernelIdeal.nD Cert.KernelIdeal.τ).loc Cert.KernelIdeal.main_arg9) = a9)
    (r0 : V (Proc.devRef .tc Cert.ReferenceIdeal.main_arg0) = a0) (r1 : V (Proc.devRef .tc Cert.ReferenceIdeal.main_arg1) = a1)
    (r2 : V (Proc.devRef .tc Cert.ReferenceIdeal.main_arg2) = a2) (r3 : V (Proc.devRef .tc Cert.ReferenceIdeal.main_arg3) = a3)
    (r4 : V (Proc.devRef .tc Cert.ReferenceIdeal.main_arg4) = a4) (r5 : V (Proc.devRef .tc Cert.ReferenceIdeal.main_arg5) = a5)
    (r6 : V (Proc.devRef .tc Cert.ReferenceIdeal.main_arg6) = a6) (r7 : V (Proc.devRef .tc Cert.ReferenceIdeal.main_arg7) = a7)
    (r8 : V (Proc.devRef .tc Cert.ReferenceIdeal.main_arg8) = a8) (r9 : V (Proc.devRef .tc Cert.ReferenceIdeal.main_arg9) = a9)
    (r11 : V (Proc.devRef .tc Cert.ReferenceIdeal.main_arg11) = a11) (r12 : V (Proc.devRef .tc Cert.ReferenceIdeal.main_arg12) = a12)
    {p : _} (hp : p = Cert.Pre_as_set_up.fn (F := Ideal) a0 a1 a2 a3 a4 a5 a6 a7 a8 a9 a10 a11 a12)
    (h : p.1 = (fun _ => 1#1) ∧ p.2.1 = (fun _ => 1#1) ∧ p.2.2.1 = (fun _ => 1#1) ∧ p.2.2.2.1 = (fun _ => 1#1)
      ∧ p.2.2.2.2.1 = (fun _ => 1#1) ∧ p.2.2.2.2.2.1 = (fun _ => 1#1) ∧ p.2.2.2.2.2.2.1 = (fun _ => 1#1)
      ∧ p.2.2.2.2.2.2.2.1 = (fun _ => 1#1) ∧ p.2.2.2.2.2.2.2.2.1 = (fun _ => 1#1) ∧ p.2.2.2.2.2.2.2.2.2.1 = (fun _ => 1#1)
      ∧ p.2.2.2.2.2.2.2.2.2.2 = (fun _ => 1#1)) :
    ((Cert.KernelIdeal.Gen.dats m 0 c).arrAt 10 Cert.KernelIdeal.cfg0.N : FVec Ideal Cert.KernelIdeal.S4x16 .f32)
      = Reference.result V := by
  subst hp
  obtain ⟨p11, p12, p0, p1, p2, p3, p4, p5, p6, p7, p8⟩ := h
  refine ext_ix2 fun b k => ?_
  refine (Kernel.result_at m c (x := fun b n k => (a0 (ix3 b n k)).toReal) (W1 := fun k c => (a1 (ix2 k c)).toReal)
    (W2 := fun k c => (a2 (ix2 k c)).toReal) (W3 := fun k c => (a3 (ix2 k c)).toReal) (γ1 := fun k => (a4 (ix1 k)).toReal)
    (β1 := fun k => (a5 (ix1 k)).toReal) (γ2 := fun k => (a6 (ix1 k)).toReal) (β2 := fun k => (a7 (ix1 k)).toReal)
    (γ3 := fun k => (a8 (ix1 k)).toReal) (β3 := fun k => a9 (ix1 k))
    (fun b n k => (congrFun k0 _).trans (Pre.real_of_test p0 _)) (fun k c => (congrFun k1 _).trans (Pre.real_of_test p1 _))
    (fun k c => (congrFun k2 _).trans (Pre.real_of_test p2 _)) (fun k c => (congrFun k3 _).trans (Pre.real_of_test p3 _))
    (fun k => (congrFun k4 _).trans (Pre.real_of_test p4 _)) (fun k => (congrFun k5 _).trans (Pre.real_of_test p5 _))
    (fun k => (congrFun k6 _).trans (Pre.real_of_test p6 _)) (fun k => (congrFun k7 _).trans (Pre.real_of_test p7 _))
    (fun k => (congrFun k8 _).trans (Pre.real_of_test p8 _)) (fun k => congrFun k9 _) b k).trans ?_
  exact (Reference.result_at V
    (fun b n k => (congrFun r0 _).trans (Pre.real_of_test p0 _)) (fun k c => (congrFun r1 _).trans (Pre.real_of_test p1 _))
    (fun k c => (congrFun r2 _).trans (Pre.real_of_test p2 _)) (fun k c => (congrFun r3 _).trans (Pre.real_of_test p3 _))
    (fun k => (congrFun r4 _).trans (Pre.real_of_test p4 _)) (fun k => (congrFun r5 _).trans (Pre.real_of_test p5 _))
    (fun k => (congrFun r6 _).trans (Pre.real_of_test p6 _)) (fun k => (congrFun r7 _).trans (Pre.real_of_test p7 _))
    (fun k => (congrFun r8 _).trans (Pre.real_of_test p8 _)) (fun k => congrFun r9 _)
    (fun i => (congrFun r11 _).trans (Pre.alphas_at p11 i)) (fun i j => (congrFun r12 _).trans (Pre.dist_at p12 i j)) _ _).symm

end Cert.Gnn.Equation

end
-- ==== Proof.lean ====
/-
  The certificate: the three frames, the named constant, and the equation between the kernel's and the reference's results.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel as written runs, leaves its arguments as they were and its counters at zero. -/
theorem frame_kernel : Cert.quiescent_Kernel := fun m ρ _ => Cert.Kernel.Gen.frame m ρ

/-- So does the kernel over the extended reals, -/
theorem frame_ideal : Cert.quiescent_KernelIdeal := fun m ρ _ => Cert.KernelIdeal.Gen.frame m ρ

/-- in particular at setup; -/
theorem frame_ideal_setup : Cert.quiescent_KernelIdeal_pre_as_set_up := fun m ρ _ => Cert.KernelIdeal.Gen.frame m ρ

/-- and so does the reference, which declares no semaphore, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- in particular at setup. -/
theorem frame_reference_setup : Cert.quiescent_ReferenceIdeal_pre_as_set_up := fun m ρ _ => frame_reference m ρ trivial

/-- The named constant's pattern is the named real number, rounded. -/
theorem constant_named : Cert.preserves_Kernel_KernelIdeal :=
  IdealRules.named_const.statement Cert.KernelIdeal.κ "bn_eps" .f32 0x3727C5AC#32
    ((57089906277444001221920219541324949608299 / 5708990770823839524233143877797980545530986496 : ℝ) : EReal) rfl

/-- Over the extended reals, at setup, the kernel and the reference end with equal results. -/
theorem equal_results : Cert.algebraic_KernelIdeal_ReferenceIdeal_pre_as_set_up := by
  intro m ρ m' ρ' hpre hagree
  refine ⟨fun c => (Cert.KernelIdeal.Gen.dats m 0 c).arrAt 10 Cert.KernelIdeal.cfg0.N, Cert.KernelIdeal.Value.run_blocks m ρ, ?_⟩
  refine (θ_run Cert.ReferenceIdeal.defs _ _).mono (fun r h c => ⟨?_, (h c).2⟩) (Cert.ReferenceIdeal.Value.run (F := Ideal) m' ρ')
  obtain ⟨r0, r1, r2, r3, r4, r5, r6, r7, r8, r9, r10, r11, r12⟩ := hagree c
  refine (h c).1.trans (Eq.symm ?_)
  exact Cert.Gnn.Equation.results_eq m c (StableHlo.launchContents m' c) rfl rfl rfl rfl rfl rfl rfl rfl rfl rfl
    r0 r1 r2 r3 r4 r5 r6 r7 r8 r9 r11 r12 rfl (hpre c)

/-- Every claim of the certificate at once. -/
theorem claim : Cert.Claim :=
  ⟨Cert.Kernel.Gen.facts, Cert.KernelIdeal.Gen.facts, Cert.ReferenceIdeal.Gen.facts, Cert.Gnn.Pre.facts,
    frame_kernel, frame_ideal, frame_ideal_setup, frame_reference, frame_reference_setup, constant_named, equal_results⟩

end Cert.Proof

end
